-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S4096x100 : Shape := ⟨2, ![4096, 100]⟩
abbrev S4096 : Shape := ⟨1, ![4096]⟩
abbrev S100x64 : Shape := ⟨2, ![100, 64]⟩
abbrev S6x64 : Shape := ⟨2, ![6, 64]⟩
abbrev S_ : Shape := ⟨0, ![]⟩

class Facts : Prop where
  bcast_S_S4096x100 : S_.BroadcastsInDim S4096x100 (![] : Fin 0 → Fin S4096x100.rank)
  reducesTo_S4096x100_S_d0_1 : S4096x100.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : IVec S4096x100 32) (main_arg1 : IVec S4096 32) (main_arg2 : FVec F S100x64 .f32) (main_arg3 : FVec F S6x64 .f32) : IVec S_ 1 :=
  let main_c : IVec S_ 32 := constantI S_ 32 0#32
  let main_v0 : IVec S4096x100 32 := broadcastInDim S4096x100 ![] bcast_S_S4096x100 main_c
  let main_v1 : IVec S4096x100 1 := cmpi .sge main_arg0 main_v0
  let main_c_0 : IVec S_ 32 := constantI S_ 32 6#32
  let main_v2 : IVec S4096x100 32 := broadcastInDim S4096x100 ![] bcast_S_S4096x100 main_c_0
  let main_v3 : IVec S4096x100 1 := cmpi .slt main_arg0 main_v2
  let main_v4 : IVec S4096x100 1 := andi main_v1 main_v3
  let main_c_1 : IVec S_ 1 := constantI S_ 1 1#1
  let main_v5 : IVec S_ 1 := (fun x v => Host.reduce IntOp.andi x v reducesTo_S4096x100_S_d0_1 h_S_) main_v4 main_c_1
  let main_c_2 : IVec S_ 32 := constantI S_ 32 0#32
  let main_v6 : IVec S4096 32 := broadcastInDim S4096 ![] bcast_S_S4096 main_c_2
  let main_v7 : IVec S4096 1 := cmpi .sge main_arg1 main_v6
  let main_c_3 : IVec S_ 32 := constantI S_ 32 100#32
  let main_v8 : IVec S4096 32 := broadcastInDim S4096 ![] bcast_S_S4096 main_c_3
  let main_v9 : IVec S4096 1 := cmpi .slt main_arg1 main_v8
  let main_v10 : IVec S4096 1 := andi main_v7 main_v9
  let main_c_4 : IVec S_ 1 := constantI S_ 1 1#1
  let main_v11 : IVec S_ 1 := (fun x v => Host.reduce IntOp.andi x v reducesTo_S4096_S_d0 h_S_) main_v10 main_c_4
  let main_v12 : IVec S_ 1 := andi main_v5 main_v11
  main_v12
-- ==== Kernel.lean ====
abbrev S4096x100 : Shape := ⟨2, ![4096, 100]⟩
abbrev S4096 : Shape := ⟨1, ![4096]⟩
abbrev S100x64 : Shape := ⟨2, ![100, 64]⟩
abbrev S6x64 : Shape := ⟨2, ![6, 64]⟩
abbrev S50x64 : Shape := ⟨2, ![50, 64]⟩
abbrev S7x7x50x128 : Shape := ⟨4, ![7, 7, 50, 128]⟩
abbrev S1x64 : Shape := ⟨2, ![1, 64]⟩
abbrev S64 : Shape := ⟨1, ![64]⟩
abbrev S50x128 : Shape := ⟨2, ![50, 128]⟩
abbrev S1x1x50x128 : Shape := ⟨4, ![1, 1, 50, 128]⟩
abbrev S2450x128 : Shape := ⟨2, ![2450, 128]⟩
abbrev S4096x50 : Shape := ⟨2, ![4096, 50]⟩
abbrev S204800 : Shape := ⟨1, ![204800]⟩
abbrev S50 : Shape := ⟨1, ![50]⟩
abbrev S1x50 : Shape := ⟨2, ![1, 50]⟩
abbrev S204800x128 : Shape := ⟨2, ![204800, 128]⟩
abbrev S1x128 : Shape := ⟨2, ![1, 128]⟩
abbrev S1x128x128 : Shape := ⟨3, ![1, 128, 128]⟩
abbrev S_ : Shape := ⟨0, ![]⟩
abbrev S128 : Shape := ⟨1, ![128]⟩
abbrev S1x16 : Shape := ⟨2, ![1, 16]⟩
abbrev S16 : Shape := ⟨1, ![16]⟩
abbrev S128x128 : Shape := ⟨2, ![128, 128]⟩
abbrev S4096x100x64 : Shape := ⟨3, ![4096, 100, 64]⟩

abbrev nBuf : Table → Nat
  | .hbm => 20
  | .local .tc .vmem => 4
  | .local .scVector .vmem => 6
  | _ => 0

abbrev bufTy : (tb : Table) → Fin (nBuf tb) → BufTy
  | .hbm, ⟨0, _⟩ => ⟨S4096x100, .i32⟩
  | .hbm, ⟨1, _⟩ => ⟨S4096, .i32⟩
  | .hbm, ⟨2, _⟩ => ⟨S100x64, .f32⟩
  | .hbm, ⟨3, _⟩ => ⟨S6x64, .f32⟩
  | .hbm, ⟨4, _⟩ => ⟨S50x64, .f32⟩
  | .hbm, ⟨5, _⟩ => ⟨S50x64, .f32⟩
  | .hbm, ⟨6, _⟩ => ⟨S7x7x50x128, .f32⟩
  | .hbm, ⟨7, _⟩ => ⟨S2450x128, .f32⟩
  | .hbm, ⟨8, _⟩ => ⟨S4096x50, .i32⟩
  | .hbm, ⟨9, _⟩ => ⟨S204800, .i32⟩
  | .hbm, ⟨10, _⟩ => ⟨S4096x50, .i32⟩
  | .hbm, ⟨11, _⟩ => ⟨S204800, .i32⟩
  | .hbm, ⟨12, _⟩ => ⟨S50, .i32⟩
  | .hbm, ⟨13, _⟩ => ⟨S1x50, .i32⟩
  | .hbm, ⟨14, _⟩ => ⟨S4096x50, .i32⟩
  | .hbm, ⟨15, _⟩ => ⟨S204800, .i32⟩
  | .hbm, ⟨16, _⟩ => ⟨S4096x50, .i32⟩
  | .hbm, ⟨17, _⟩ => ⟨S204800, .i32⟩
  | .hbm, ⟨18, _⟩ => ⟨S204800x128, .f32⟩
  | .hbm, ⟨19, _⟩ => ⟨S4096x100x64, .f32⟩
  | .local .tc .vmem, ⟨0, _⟩ => ⟨S50x64, .f32⟩
  | .local .tc .vmem, ⟨1, _⟩ => ⟨S50x64, .f32⟩
  | .local .tc .vmem, ⟨2, _⟩ => ⟨S6x64, .f32⟩
  | .local .tc .vmem, ⟨3, _⟩ => ⟨S7x7x50x128, .f32⟩
  | .local .scVector .vmem, ⟨0, _⟩ => ⟨S1x128, .i32⟩
  | .local .scVector .vmem, ⟨1, _⟩ => ⟨S1x128, .i32⟩
  | .local .scVector .vmem, ⟨2, _⟩ => ⟨S1x128, .i32⟩
  | .local .scVector .vmem, ⟨3, _⟩ => ⟨S1x128, .i32⟩
  | .local .scVector .vmem, ⟨4, _⟩ => ⟨S1x128, .i32⟩
  | .local .scVector .vmem, ⟨5, _⟩ => ⟨S1x128x128, .f32⟩
  | _, _ => ⟨S4096x100, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | ⟨8, _⟩ => false
  | ⟨9, _⟩ => false
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v3_scv : Ref sig .scVector := ⟨.hbm, 7, rfl⟩
abbrev main_v5_scv : Ref sig .scVector := ⟨.hbm, 9, rfl⟩
abbrev main_v7_scv : Ref sig .scVector := ⟨.hbm, 11, rfl⟩
abbrev main_v11_scv : Ref sig .scVector := ⟨.hbm, 15, rfl⟩
abbrev main_v13_scv : Ref sig .scVector := ⟨.hbm, 17, rfl⟩
abbrev main_v14_scv : Ref sig .scVector := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S50x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S50x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S7x7x50x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨2, ![2, 16], ![false, false]⟩

@[reducible] def k1_t1_loop : Scf.Loop 32 :=
  let c0_i32_0 : BitVec 32 := 0#32
  let c50_i32 : BitVec 32 := 50#32
  let v3 : BitVec 32 := Scalar.addi c0_i32_0 c50_i32
  let c1_i32 : BitVec 32 := 1#32
  ⟨c0_i32_0, v3, c1_i32⟩
def k1_off1 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_0 : BitVec 32 := 0#32
  let c1_i32 : BitVec 32 := 1#32
  let arg15 : BitVec 32 := Scf.iv c0_i32_0 c1_i32 k1_t1
  let c128_i32 : BitVec 32 := 128#32
  let v4 : BitVec 32 := Scalar.muli arg15 c128_i32
  let v5 : BitVec 32 := Scalar.addi v2 v4
  ![v5.toNat]
def k1_off2 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_0 : BitVec 32 := 0#32
  let c1_i32 : BitVec 32 := 1#32
  let arg15 : BitVec 32 := Scf.iv c0_i32_0 c1_i32 k1_t1
  let c128_i32 : BitVec 32 := 128#32
  let v4 : BitVec 32 := Scalar.muli arg15 c128_i32
  let v5 : BitVec 32 := Scalar.addi v2 v4
  let c0_i32_141_r4 : BitVec 32 := 0#32
  ![v5.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x100 : Shape := ⟨2, ![4096, 100]⟩
abbrev S4096 : Shape := ⟨1, ![4096]⟩
abbrev S100x64 : Shape := ⟨2, ![100, 64]⟩
abbrev S6x64 : Shape := ⟨2, ![6, 64]⟩
abbrev S_ : Shape := ⟨0, ![]⟩
abbrev S4096x100x1 : Shape := ⟨3, ![4096, 100, 1]⟩
abbrev S1 : Shape := ⟨1, ![1]⟩
abbrev S1x1x1 : Shape := ⟨3, ![1, 1, 1]⟩
abbrev S4096x100x64 : Shape := ⟨3, ![4096, 100, 64]⟩
abbrev S4096x1 : Shape := ⟨2, ![4096, 1]⟩
abbrev S4096x2 : Shape := ⟨2, ![4096, 2]⟩
abbrev S4096x64 : Shape := ⟨2, ![4096, 64]⟩
abbrev S1x100x64 : Shape := ⟨3, ![1, 100, 64]⟩

abbrev nBuf : Space → Nat
  | .hbm => 51
  | .vmem => 0
  | .smem => 0
  | _ => 0

abbrev bufTy : (tb : Table) → Fin (tcTables nBuf tb) → BufTy
  | .hbm, ⟨0, _⟩ => ⟨S4096x100, .i32⟩
  | .hbm, ⟨1, _⟩ => ⟨S4096, .i32⟩
  | .hbm, ⟨2, _⟩ => ⟨S100x64, .f32⟩
  | .hbm, ⟨3, _⟩ => ⟨S6x64, .f32⟩
  | .hbm, ⟨4, _⟩ => ⟨S_, .i32⟩
  | .hbm, ⟨5, _⟩ => ⟨S4096x100, .i32⟩
  | .hbm, ⟨6, _⟩ => ⟨S4096x100, .i1⟩
  | .hbm, ⟨7, _⟩ => ⟨S_, .i32⟩
  | .hbm, ⟨8, _⟩ => ⟨S4096x100, .i32⟩
  | .hbm, ⟨9, _⟩ => ⟨S4096x100, .i32⟩
  | .hbm, ⟨10, _⟩ => ⟨S4096x100, .i32⟩
  | .hbm, ⟨11, _⟩ => ⟨S4096x100x1, .i32⟩
  | .hbm, ⟨12, _⟩ => ⟨S1, .i32⟩
  | .hbm, ⟨13, _⟩ => ⟨S_, .i32⟩
  | .hbm, ⟨14, _⟩ => ⟨S4096x100x1, .i32⟩
  | .hbm, ⟨15, _⟩ => ⟨S4096x100x1, .i1⟩
  | .hbm, ⟨16, _⟩ => ⟨S1x1x1, .i32⟩
  | .hbm, ⟨17, _⟩ => ⟨S4096x100x1, .i32⟩
  | .hbm, ⟨18, _⟩ => ⟨S4096x100x1, .i1⟩
  | .hbm, ⟨19, _⟩ => ⟨S4096x100x1, .i1⟩
  | .hbm, ⟨20, _⟩ => ⟨S_, .i1⟩
  | .hbm, ⟨21, _⟩ => ⟨S4096x100, .i1⟩
  | .hbm, ⟨22, _⟩ => ⟨S4096x100x64, .f32⟩
  | .hbm, ⟨23, _⟩ => ⟨S4096x100x64, .i1⟩
  | .hbm, ⟨24, _⟩ => ⟨S_, .f32⟩
  | .hbm, ⟨25, _⟩ => ⟨S4096x100x64, .f32⟩
  | .hbm, ⟨26, _⟩ => ⟨S4096x100x64, .f32⟩
  | .hbm, ⟨27, _⟩ => ⟨S4096, .i32⟩
  | .hbm, ⟨28, _⟩ => ⟨S_, .i32⟩
  | .hbm, ⟨29, _⟩ => ⟨S4096, .i32⟩
  | .hbm, ⟨30, _⟩ => ⟨S4096, .i1⟩
  | .hbm, ⟨31, _⟩ => ⟨S_, .i32⟩
  | .hbm, ⟨32, _⟩ => ⟨S4096, .i32⟩
  | .hbm, ⟨33, _⟩ => ⟨S4096, .i32⟩
  | .hbm, ⟨34, _⟩ => ⟨S4096, .i32⟩
  | .hbm, ⟨35, _⟩ => ⟨S_, .i32⟩
  | .hbm, ⟨36, _⟩ => ⟨S4096, .i32⟩
  | .hbm, ⟨37, _⟩ => ⟨S4096, .i1⟩
  | .hbm, ⟨38, _⟩ => ⟨S_, .i32⟩
  | .hbm, ⟨39, _⟩ => ⟨S4096, .i32⟩
  | .hbm, ⟨40, _⟩ => ⟨S4096, .i32⟩
  | .hbm, ⟨41, _⟩ => ⟨S4096, .i32⟩
  | .hbm, ⟨42, _⟩ => ⟨S4096x1, .i32⟩
  | .hbm, ⟨43, _⟩ => ⟨S4096x1, .i32⟩
  | .hbm, ⟨44, _⟩ => ⟨S4096x2, .i32⟩
  | .hbm, ⟨45, _⟩ => ⟨S_, .f32⟩
  | .hbm, ⟨46, _⟩ => ⟨S4096x64, .f32⟩
  | .hbm, ⟨47, _⟩ => ⟨S4096x100x64, .f32⟩
  | .hbm, ⟨48, _⟩ => ⟨S1x100x64, .f32⟩
  | .hbm, ⟨49, _⟩ => ⟨S4096x100x64, .f32⟩
  | .hbm, ⟨50, _⟩ => ⟨S4096x100x64, .f32⟩
  | _, _ => ⟨S4096x100, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_c : Ref sig .tc := ⟨.hbm, 28, rfl⟩
abbrev main_v2 : Ref sig .tc := ⟨.hbm, 29, rfl⟩
abbrev main_v3 : Ref sig .tc := ⟨.hbm, 30, rfl⟩
abbrev main_c_0 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_c_1 : Ref sig .tc := ⟨.hbm, 35, rfl⟩
abbrev main_v7 : Ref sig .tc := ⟨.hbm, 36, rfl⟩
abbrev main_v8 : Ref sig .tc := ⟨.hbm, 37, rfl⟩
abbrev main_c_2 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩

abbrev nD : Nat := 1
abbrev τ : Topo := Topo.v7x

variable {F : FTy → Type} [FloatOps F]
-- ==== Proof.Common.lean ====
/-
  What every module of this proof shares: the program as the launch theorem sees it (its configuration and
  body tables), the ghost state it runs with (the launch handshakes' rounds, the pipeline's rounds and the
  transfers' counters, side by side), and names for the arrays the TensorCore and the tiles both address.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Pipeline.Value
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

/-- The labels of the TensorCore's program: the bodies' and the one pipeline's. -/
abbrev ΛP : Labels := Pipeline.Sig Λ₀ (Fin 1) fun p => (pcfgs (F := F) p).Adm
/-- The SparseCore configuration, -/
abbrev K : SparseCore.Cfg τ sig (ΛP (F := F)) 1 := sc (F := F)
/-- and the body table beneath it. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_eq : (K (F := F)).nSub 0 = 16 := rfl
theorem nCore_eq : (K (F := F)).nCore 0 = 2 := rfl

/-- The configuration's handshake cells are what the launch theorem asks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state -/

/-- The handshakes' rounds; -/
abbrev UH : Type := URounds (GSem nD τ sig) ℕ
/-- the pipeline's rounds; -/
abbrev UP : Type := UR sig nD τ
/-- and with the transfers' counters, the three side by side. -/
abbrev UU : Type := UH × (UP × Counters)

/-- The handshakes' component, embedded; -/
abbrev EH : Emb UH (MT nD τ sig (HIx 1) (Elt F) ℕ UU ℕ) := embL
/-- the pipeline's. -/
def EP : Emb UP (MT nD τ sig (HIx 1) (Elt F) ℕ UU ℕ) := (Emb.inl : Emb UP (UP × Counters)).trans embR

instance EP_landsIn : (EP : Emb UP (MT nD τ sig (HIx 1) (Elt F) ℕ UU ℕ)).LandsIn (upEmb : UEmb _ (MT nD τ sig (HIx 1) (Elt F) ℕ UU ℕ)) := by
  unfold EP embR; infer_instance

/-! ## The arrays -/

/-- The table the TensorCore builds, flattened; -/
abbrev tLoc (d : Dev nD) : Loc nD τ sig := (SparseCore.T d).loc main_v3
/-- the even columns of `x`, flattened; -/
abbrev eLoc (d : Dev nD) : Loc nD τ sig := (SparseCore.T d).loc main_v5
/-- the odd columns of `x`; -/
abbrev oLoc (d : Dev nD) : Loc nD τ sig := (SparseCore.T d).loc main_v7
/-- the pair number of each place; -/
abbrev pLoc (d : Dev nD) : Loc nD τ sig := (SparseCore.T d).loc main_v11
/-- the batch row's masked position at each place; -/
abbrev yLoc (d : Dev nD) : Loc nD τ sig := (SparseCore.T d).loc main_v13
/-- and the rows the tiles write. -/
abbrev rLoc (d : Dev nD) : Loc nD τ sig := (SparseCore.T d).loc main_v14

end Cert.Proof.Lookup

end
-- ==== Proof.Table.lean ====
/-
  The TensorCore's kernel: it fills the table of pair rows, piece by piece, from the two halves of the name
  embedding and the value embedding. What the table holds is stated in closed form, and the body's run leaves it.
-/
module

public import proofs.«01_k».proof.Proof.Common
public import Idealize.ShloMosaic.Lib.Pipeline.FrameBody

@[expose] public section

noncomputable section

namespace Cert.Proof.Lookup

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## What the table holds -/

/-- One half of a table row: row `p` of the names, plus row `e` of the values unless `e` says "masked". -/
def half (n : S50x64.Idx → Elt F .f32) (vt : S6x64.Idx → Elt F .f32) (e p c : Nat) (hp : p < 50) (hc : c < 64) : Elt F .f32 :=
  if h : e < 6 then FloatOps.addf (n (fun | 0 => ⟨p, hp⟩ | 1 => ⟨c, hc⟩)) (vt (fun | 0 => ⟨e, h⟩ | 1 => ⟨c, hc⟩))
  else n (fun | 0 => ⟨p, hp⟩ | 1 => ⟨c, hc⟩)

/-- The table: at `(e0, e1, p, c)` the even half below lane 64 and the odd half above. -/
def table4 (n0 n1 : S50x64.Idx → Elt F .f32) (vt : S6x64.Idx → Elt F .f32) (j : S7x7x50x128.Idx) : Elt F .f32 :=
  if h : (j 3).val < 64 then half n0 vt (j 0).val (j 2).val (j 3).val (j 2).isLt h
  else half n1 vt (j 1).val (j 2).val ((j 3).val - 64) (j 2).isLt (by have := (j 3).isLt; change _ < 128 at this; omega)

/-- The table at a place whose coordinates are named. -/
theorem table4_of (n0 n1 : S50x64.Idx → Elt F .f32) (vt : S6x64.Idx → Elt F .f32) (j : S7x7x50x128.Idx) {e0 e1 p c : Nat}
    (h0 : (j 0).val = e0) (h1 : (j 1).val = e1) (h2 : (j 2).val = p) (h3 : (j 3).val = c) (hp : p < 50) (hc : c < 128) :
    table4 n0 n1 vt j = if h : c < 64 then half n0 vt e0 p c hp h else half n1 vt e1 p (c - 64) hp (by omega) := by
  subst h0; subst h1; subst h2; subst h3; rfl

/-! ## The pieces the body stores -/

/-- A (50, 64) vector that is one half of the table's rows with value `e`. -/
def IsHalf (l : S50x64.Idx → Elt F .f32) (n : S50x64.Idx → Elt F .f32) (vt : S6x64.Idx → Elt F .f32) (e : Nat) : Prop :=
  ∀ (p c : Nat) (hp : p < 50) (hc : c < 64), l (fun | 0 => ⟨p, hp⟩ | 1 => ⟨c, hc⟩) = half n vt e p c hp hc

local notation "m0" => (Memref.whole cc0_stg0_0)
local notation "m1" => (Memref.whole cc0_stg1_0)
local notation "m2" => (Memref.whole cc0_stg2_0)
local notation "m3" => (Memref.whole cc0_stg3_0)

/-- The names alone are the masked half. -/
theorem masked (w n : S50x64.Idx → Elt F .f32) (vt : S6x64.Idx → Elt F .f32) (hw : w = n) (h : S50x64.ShapeCasts S50x64) :
    IsHalf (shapeCast S50x64 w h) n vt 6 := by
  intro p c hp hc
  rw [shapeCast_self, hw]
  unfold half
  rw [dif_neg (by decide : ¬ (6 < 6))]

/-- The names plus row `e` of the values, broadcast down the rows, are the half with value `e`. -/
theorem valued (w n : S50x64.Idx → Elt F .f32) (vt : S6x64.Idx → Elt F .f32) (hw : w = n) (e : Nat) (he : e < 6) (h : S50x64.ShapeCasts S50x64)
    (inb : ∀ a, (![e, 0] : Fin 2 → Nat) a + S1x64.size a ≤ S6x64.size a) (h1 : S1x64.ShapeCasts S64) (h2 : S64.ShapeCasts S1x64) (h3 : S1x64.Broadcasts S50x64) :
    IsHalf (addf (F := F) (φ := .f32) (shapeCast S50x64 w h) (broadcastTo S50x64 (shapeCast S1x64 (shapeCast S64
      ((m2).view.readAt (Elt F) (Rect.unit (s := S6x64) ![e, 0] S1x64.size inb).toLoadRect vt) h1) h2) h3)) n vt e := by
  intro p c hp hc
  rw [shapeCast_self, shapeCast_shapeCast, hw]
  refine Eq.trans ?_ (dif_pos he).symm
  show FloatOps.addf _ _ = FloatOps.addf _ _
  congr 1
  rw [broadcastTo_apply _ h3 _ (fun | 0 => ⟨0, by decide⟩ | 1 => ⟨c, hc⟩) (fun | 0 => rfl | 1 => rfl)]
  show vt _ = vt _
  congr 1
  funext a
  apply Fin.ext
  match a with
  | 0 => show e + 1 * 0 = e; omega
  | 1 => show 0 + 1 * c = c; omega

/-- A load of a whole staging buffer of names reads it. -/
theorem names0 (n : S50x64.Idx → Elt F .f32) (inb : ∀ a, (![0, 0] : Fin 2 → Nat) a + S50x64.size a ≤ S50x64.size a) :
    (m0).view.readAt (Elt F) (Rect.unit (s := S50x64) ![0, 0] S50x64.size inb).toLoadRect n = n :=
  Memref.readAt_unit_zero (Elt F) cc0_stg0_0 (by funext a; match a with | 0 => rfl | 1 => rfl) inb n

theorem names1 (n : S50x64.Idx → Elt F .f32) (inb : ∀ a, (![0, 0] : Fin 2 → Nat) a + S50x64.size a ≤ S50x64.size a) :
    (m1).view.readAt (Elt F) (Rect.unit (s := S50x64) ![0, 0] S50x64.size inb).toLoadRect n = n :=
  Memref.readAt_unit_zero (Elt F) cc0_stg1_0 (by funext a; match a with | 0 => rfl | 1 => rfl) inb n

/-- Two halves side by side, stored at block `(e0, e1)`, are the table there. -/
theorem piece_at (n0 n1 : S50x64.Idx → Elt F .f32) (vt : S6x64.Idx → Elt F .f32) (e0 e1 : Nat)
    (inb : ∀ a, (![e0, e1, 0, 0] : Fin 4 → Nat) a + S1x1x50x128.size a ≤ S7x7x50x128.size a) (l r : S50x64.Idx → Elt F .f32)
    (hcc : Shape.Concatenates [S50x64, S50x64] S50x128 1) (hsc : S50x128.ShapeCasts S1x1x50x128)
    (hl : IsHalf l n0 vt e0) (hr : IsHalf r n1 vt e1) (x : S1x1x50x128.Idx) :
    shapeCast S1x1x50x128 (concatenate S50x128 1 [⟨S50x64, l⟩, ⟨S50x64, r⟩] hcc) hsc x
      = table4 n0 n1 vt ((Rect.unit (s := S7x7x50x128) ![e0, e1, 0, 0] S1x1x50x128.size inb).emb x) := by
  have b0 : (x 0).val < 1 := (x 0).isLt
  have b1 : (x 1).val < 1 := (x 1).isLt
  have b2 : (x 2).val < 50 := (x 2).isLt
  have b3 : (x 3).val < 128 := (x 3).isLt
  rw [table4_of n0 n1 vt _ (show e0 + 1 * (x 0).val = e0 by omega) (show e1 + 1 * (x 1).val = e1 by omega)
    (show 0 + 1 * (x 2).val = (x 2).val by omega) (show 0 + 1 * (x 3).val = (x 3).val by omega) b2 b3]
  rw [shapeCast_apply _ hsc x (fun | 0 => ⟨(x 2).val, b2⟩ | 1 => ⟨(x 3).val, b3⟩) (by
    rw [Shape.rowMajor_val_two, Shape.rowMajor_val_four]
    show (x 2).val * 128 + (x 3).val = (((x 0).val * 1 + (x 1).val) * 50 + (x 2).val) * 128 + (x 3).val
    omega)]
  by_cases h : (x 3).val < 64
  · rw [dif_pos h, ← hl]
    exact concatenate_pair_apply_left 1 l r hcc _ rfl _ (fun | 0 => rfl | 1 => rfl)
  · rw [dif_neg h, ← hr]
    exact concatenate_pair_apply_right 1 l r hcc _ rfl rfl _ (fun | 0 => fun _ => rfl | 1 => fun hb => absurd rfl hb)
      (show ((x 3).val - 64) + 64 = (x 3).val by omega)

/-- The result's staging buffer after stores that cover it and each hold their piece of `G` holds `G`. -/
theorem filled (c : Dev nD) (f3 G : S7x7x50x128.Idx → Elt F .f32) (L : List (View.Piece (Elt F) S7x7x50x128 .f32))
    (hL : ∀ p ∈ L, ∀ x : p.1.shape.Idx, p.2 x = G (p.1.emb x)) (hc : View.Piece.tiled L ![1, 1, 50, 128] = true) :
    ((m3).view.loc (c : Thread nD τ) ↦{fullShare} (m3).view.writes (Elt F) f3 L : sProp 𝕄) ⊢ ((m3).view.loc (c : Thread nD τ) ↦{fullShare} G) := by
  refine Entails.of_eq (pointsTo_congr fun i _ => ?_)
  exact View.read_writes_apply_of_pieces (Val := Elt F) (m3).view f3 G L hL i (View.cover_of_tiled L _ hc i)

/-! ## The body's run -/

set_option maxHeartbeats 8000000 in
theorem table_run (c : Dev nD) (n0 n1 : S50x64.Idx → Elt F .f32) (vt : S6x64.Idx → Elt F .f32) (f3 : S7x7x50x128.Idx → Elt F .f32)
    (Q : PUnit → sProp 𝕄) :
    iprop(((m0).view.loc (c : Thread nD τ) ↦{fullShare} n0) ∗ ((m1).view.loc (c : Thread nD τ) ↦{fullShare} n1)
        ∗ ((m2).view.loc (c : Thread nD τ) ↦{fullShare} vt) ∗ ((m3).view.loc (c : Thread nD τ) ↦{fullShare} f3)
        ∗ (iprop(((m0).view.loc (c : Thread nD τ) ↦{fullShare} n0) ∗ ((m1).view.loc (c : Thread nD τ) ↦{fullShare} n1)
            ∗ ((m2).view.loc (c : Thread nD τ) ↦{fullShare} vt) ∗ ((m3).view.loc (c : Thread nD τ) ↦{fullShare} table4 n0 n1 vt)) -∗ Q ⟨⟩))
      ⊢ wp frame (wpE (defs₀ (F := F)) 𝒱₀ (c : Thread nD τ) none) Set.univ
          (cc0__tab_body m0 (Memref.isWhole_whole _) m1 (Memref.isWhole_whole _) m2 (Memref.isWhole_whole _) m3 (Memref.isWhole_whole _)) Q := by
  rw [cc0__tab_body_eq_skeleton]; unfold cc0__tab_body_skel
  rw [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  iintro ⟨H0, H1, H2, H3, Hk⟩
  sl_exec
  sl_step
  iapply Hk
  isplitl [H0]; · iexact H0
  isplitl [H1]; · iexact H1
  isplitl [H2]; · iexact H2
  iapply (filled c f3 (table4 n0 n1 vt) _ ?hL ?hc)
  on_goal 3 => iexact H3
  case hc => rfl
  case hL =>
    iterate 49
      refine List.forall_mem_cons.mpr ⟨fun x => piece_at n0 n1 vt _ _ (by decide) _ _ concatenates_S50x64_S50x64_S50x128_d1 shapeCasts_S50x128_S1x1x50x128 ?_ ?_ x, ?_⟩
      · first
          | exact valued _ n0 vt (names0 n0 _) _ (by decide) _ _ _ _ _
          | exact masked _ n0 vt (names0 n0 _) _
      · first
          | exact valued _ n1 vt (names1 n1 _) _ (by decide) _ _ _ _ _
          | exact masked _ n1 vt (names1 n1 _) _
    exact fun _ h => absurd h List.not_mem_nil

end Cert.Proof.Lookup

end
-- ==== Proof.Region.lean ====
/-
  The TensorCore's call, as one step of the program: from every array of the program held at a valuation it runs to
  the same arrays held at that valuation but for the table, which holds `table4` of the name rows and the values. The
  TensorCore owes its start signals to the SparseCores while it runs; the pipeline's own waits sit below them.
-/
module

public import proofs.«01_k».proof.Proof.Table
public import Idealize.ShloMosaic.Lib.Pipeline.RegionsLoop
public import Idealize.ShloMosaic.Lib.Pipeline.ValueKit

@[expose] public section

noncomputable section

namespace Cert.Proof.Lookup

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type} [FloatOps F]

local notation "𝕄" => MT nD τ sig (HIx 1) (Elt F) ℕ UU ℕ

/-- What the TensorCore holds: a contents for each of its buffers. -/
abbrev Vals (F : FTy → Type) : Type := (c : Dev nD) → (b : Ref sig .tc) → Buf (Elt F) ((c : Thread nD τ).loc b)

variable (A : Vals F)

/-! ## The proof data -/

/-- The even name rows as the first fetch stages them; -/
abbrev in0 (c : Dev nD) : (cfg0.win 0).block.Idx → Elt F (cfg0.win 0).elt := ((cfg0.win 0).blk t0_0).view.read (Elt F) (A c main_v0)
/-- the odd name rows; -/
abbrev in1 (c : Dev nD) : (cfg0.win 1).block.Idx → Elt F (cfg0.win 1).elt := ((cfg0.win 1).blk t0_0).view.read (Elt F) (A c main_v1)
/-- the values. -/
abbrev in2 (c : Dev nD) : (cfg0.win 2).block.Idx → Elt F (cfg0.win 2).elt := ((cfg0.win 2).blk t0_0).view.read (Elt F) (A c main_arg3)

/-- The call's proof data: the arrays at the valuation, the inputs left as fetched, the result's staging buffer left
    at the table, the start signals owed throughout. -/
def dat (c : Dev nD) : Dat τ (Elt F) (HIx 1) ℕ UU ℕ cfg0 c where
  A w := A c (Pipeline.arrRef spec0 w)
  after w _ := match w with
    | ⟨0, _⟩ => in0 A c
    | ⟨1, _⟩ => in1 A c
    | ⟨2, _⟩ => in2 A c
    | ⟨3, _⟩ => table4 (in0 A c) (in1 A c) (in2 A c)
  Φ _ := BI.emp
  q _ := fullShare
  owed _ := (K (F := F)).Otc c 0
  recorded _ := {p | p.2 = none}

/-- The pipeline prefetches no table. -/
abbrev adm : (p : Fin 1) → (pcfgs (F := F) p).Adm := fun p => (cfgs p).toPCfg_adm

/-- The one pipeline's proof data. -/
def pdats : (p : Fin 1) → (c : Dev nD) → Dat τ (Elt F) (HIx 1) ℕ UU ℕ (Pipeline.pin (pcfgs (F := F)) adm p) c
  | ⟨0, _⟩ => fun c => dat A c

theorem before0 (c : Dev nD) (d : (cfg0.win 0).block.Idx → Elt F (cfg0.win 0).elt) : (dat A c).before 0 t0_0 d = in0 A c := by
  unfold Dat.before; rw [if_pos (by decide)]; rfl
theorem before1 (c : Dev nD) (d : (cfg0.win 1).block.Idx → Elt F (cfg0.win 1).elt) : (dat A c).before 1 t0_0 d = in1 A c := by
  unfold Dat.before; rw [if_pos (by decide)]; rfl
theorem before2 (c : Dev nD) (d : (cfg0.win 2).block.Idx → Elt F (cfg0.win 2).elt) : (dat A c).before 2 t0_0 d = in2 A c := by
  unfold Dat.before; rw [if_pos (by decide)]; rfl

/-- The body meets the pipeline's obligation: the staging buffers taken apart, the run applied, its end put back. -/
theorem body_obligation (c : Dev nD) : BodyObligation (dat A c) (defs₀ (F := F)) 𝒱₀ none Set.univ := fun t => by
  obtain rfl := fin_N0 t
  rw [bigSep_W0, bigSep_W0]
  simp only [owns_whole_eq]
  rw [show (dat A c).Φ t0_0.castSucc = BI.emp from rfl, show (dat A c).Φ t0_0.succ = BI.emp from rfl,
    show (dat A c).owesAt none t0_0.succ = (dat A c).owesAt none t0_0.castSucc from rfl]
  iintro ⟨-, Howes, ⟨%d0, %f0, %hf0, H0⟩, ⟨%d1, %f1, %hf1, H1⟩, ⟨%d2, %f2, %hf2, H2⟩, ⟨%d3, %f3, -, H3⟩⟩
  rw [before0] at hf0
  rw [before1] at hf1
  rw [before2] at hf2
  subst hf0
  subst hf1
  subst hf2
  iapply (table_run c _ _ _ f3 _)
  isplitl [H0]; · iexact H0
  isplitl [H1]; · iexact H1
  isplitl [H2]; · iexact H2
  isplitl [H3]; · iexact H3
  iintro ⟨H0, H1, H2, H3⟩
  isplitr; · iempintro
  isplitl [Howes]; · iexact Howes
  isplitl [H0]; · iexists _; isplitr; swap; (· iexact H0); ipureintro; dsimp only [dat]
  isplitl [H1]; · iexists _; isplitr; swap; (· iexact H1); ipureintro; dsimp only [dat]
  isplitl [H2]; · iexists _; isplitr; swap; (· iexact H2); ipureintro; dsimp only [dat]
  iexists _; isplitr; swap; (· iexact H3); ipureintro; dsimp only [dat]

/-! ## The values -/

theorem in0_eq (c : Dev nD) : in0 A c = A c main_v0 := by
  funext j; show A c main_v0 _ = A c main_v0 j; congr 1; funext a; apply Fin.ext; match a with | 0 => exact (by blk_simp; exact (congrArg (· + _) (Nat.zero_mul _)).trans (Nat.zero_add _)) | 1 => exact (by blk_simp; exact (congrArg (· + _) (Nat.zero_mul _)).trans (Nat.zero_add _))
theorem in1_eq (c : Dev nD) : in1 A c = A c main_v1 := by
  funext j; show A c main_v1 _ = A c main_v1 j; congr 1; funext a; apply Fin.ext; match a with | 0 => exact (by blk_simp; exact (congrArg (· + _) (Nat.zero_mul _)).trans (Nat.zero_add _)) | 1 => exact (by blk_simp; exact (congrArg (· + _) (Nat.zero_mul _)).trans (Nat.zero_add _))
theorem in2_eq (c : Dev nD) : in2 A c = A c main_arg3 := by
  funext j; show A c main_arg3 _ = A c main_arg3 j; congr 1; funext a; apply Fin.ext; match a with | 0 => exact (by blk_simp; exact (congrArg (· + _) (Nat.zero_mul _)).trans (Nat.zero_add _)) | 1 => exact (by blk_simp; exact (congrArg (· + _) (Nat.zero_mul _)).trans (Nat.zero_add _))

/-- The start signals the TensorCore owes are none of the kernels' own. -/
theorem owed_none (c : Dev nD) (g : GSem nD τ sig) : (K (F := F)).Otc c 0 g (none : HIx 1) = 0 := by
  by_contra h
  have := (K (F := F)).lev_of_Otc_pos (Nat.pos_of_ne_zero h)
  rw [SparseCore.Cfg.lev_none] at this; omega

/-- After the call the table's array holds the table. -/
theorem built (c : Dev nD) : (dat A c).arrAt 3 cfg0.N = table4 (A c main_v0) (A c main_v1) (A c main_arg3) := by
  rw [← in0_eq A, ← in1_eq A, ← in2_eq A]
  refine (dat A c).arrAt_eq_of_after_last 3 t0_0 (by decide +kernel) _ fun j => ?_
  rfl

/-! ## The call over the thread's state -/

variable (A' : Vals F)

set_option backward.isDefEq.respectTransparency.types false in
/-- The call as a step: every unscoped buffer at `A`, and the thread's debt with nothing recorded but the kernels' own
    waits, to the same at `A'`, which is `A` but for the table. -/
def reg (hA'_out : ∀ c, A' c main_v2 = table4 (A c main_v0) (A c main_v1) (A c main_arg3)) (hA'_ne : ∀ c (b : Ref sig .tc), b ≠ main_v2 → A' c b = A c b) :
    Pipeline.RegionSeg (pcfgs (F := F)) adm (pdats A) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation A c).loose
  hwaits c := Pipeline.PerCore.cellsWaits_intro _ _ _ _ _ fun w s t => (K (F := F)).mayWait_none _ (fun g => owed_none c g)
  pre c := iprop(unscopedBufs c (A c) ∗ ∃ W, ⌜∀ p ∈ W, p.2 = none⌝ ∗ owes (c : Thread nD τ) ((K (F := F)).Otc c 0) W)
  post c := iprop(unscopedBufs c (A' c) ∗ ∃ W, ⌜∀ p ∈ W, p.2 = none⌝ ∗ owes (c : Thread nD τ) ((K (F := F)).Otc c 0) W)
  X _ := BI.emp
  Y _ := BI.emp
  Z c := Pipeline.unscopedRest (Ix := HIx 1) (Name := ℕ) (U := UU) (Lvl := ℕ) spec0 c (A c)
  hentry c := by
    rw [Pipeline.ownSems0_none]
    have hsplit := Pipeline.arrays_of_unscopedBufs (p := 0) (pcfgs (F := F)) adm (pdats A) launch0.win launch0.arr_whole c
      ((pdats A 0 c).share_full fun _ => rfl) (A c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats A 0 c).Φ 0 = BI.emp from rfl]
    iintro -; iempintro
  hout c := by
    rw [Pipeline.ownSems0_none, show (pdats A 0 c).Φ (Fin.last _) = BI.emp from rfl]
    iintro -
    isplitr; · iempintro
    isplitr; · iempintro
    rw [show (Pipeline.scopedRest _ c : sProp 𝕄) = BI.emp from scopedRest0_eq c]
    iempintro
  hexit c := by
    have hjoin := Pipeline.unscopedBufs_of_arrays (p := 0) (pcfgs (F := F)) adm (Ix := HIx 1) (Name := ℕ) (U := UU) (Lvl := ℕ) launch0.win launch0.arr_whole c
      (pdats A) ((pdats A 0 c).share_full fun _ => rfl) (A c) (A' c) ((pdats A 0 c).arrAt · cfg0.N)
      (fun w => by
        fin_cases w
        · exact ((pdats A 0 c).arrAt_in 0 rfl _).trans (hA'_ne c main_v0 (by decide)).symm
        · exact ((pdats A 0 c).arrAt_in 1 rfl _).trans (hA'_ne c main_v1 (by decide)).symm
        · exact ((pdats A 0 c).arrAt_in 2 rfl _).trans (hA'_ne c main_arg3 (by decide)).symm
        · exact (built A c).trans (hA'_out c).symm)
      (fun b hb => hA'_ne c b fun h => hb (h ▸ Finset.mem_image.mpr ⟨3, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro; intro p hp
      rcases hW hp with h | ⟨w, s, h⟩
      · exact h
      · exact h ▸ rfl
    iexact HO

theorem reg_pre (h₁ : ∀ c, A' c main_v2 = table4 (A c main_v0) (A c main_v1) (A c main_arg3)) (h₂ : ∀ c (b : Ref sig .tc), b ≠ main_v2 → A' c b = A c b) (c : Dev nD) :
    (reg A A' h₁ h₂).pre c = iprop(unscopedBufs c (A c) ∗ ∃ W, ⌜∀ p ∈ W, p.2 = none⌝ ∗ owes (c : Thread nD τ) ((K (F := F)).Otc c 0) W) := rfl
theorem reg_post (h₁ : ∀ c, A' c main_v2 = table4 (A c main_v0) (A c main_v1) (A c main_arg3)) (h₂ : ∀ c (b : Ref sig .tc), b ≠ main_v2 → A' c b = A c b) (c : Dev nD) :
    (reg A A' h₁ h₂).post c = iprop(unscopedBufs c (A' c) ∗ ∃ W, ⌜∀ p ∈ W, p.2 = none⌝ ∗ owes (c : Thread nD τ) ((K (F := F)).Otc c 0) W) := rfl

end Cert.Proof.Lookup

end
-- ==== Proof.Index.lean ====
/-
  The word a tile computes for one place: which row of the table it gathers there. A place names a pair of
  adjacent positions `2·dp`, `2·dp + 1` of one batch row whose masked position is `y`; the word is
  `(e₀·7 + e₁)·50 + dp`, `e₀` and `e₁` the two entries of `x`, each replaced by six where its position is the
  masked one. The eight sixteen-lane computations of the body are this word lane by lane, and it is a row of
  the table whenever the entries are below six and the pair number below fifty.
-/
module

public import proofs.«01_k».proof.Proof.Common

@[expose] public section

noncomputable section

namespace Cert.Proof.Lookup

open Cert.KernelIdeal Cert.KernelIdeal.Gen
open Idealize.ShloMosaic

/-- The row of the table named by the entries `xe`, `xo`, the pair number `dp` and the masked position `y`. -/
def word (xe xo dp y : BitVec 32) : BitVec 32 :=
  IntOp.addi (IntOp.muli (IntOp.addi
    (IntOp.muli (Scalar.select (IntOp.cmpi .eq (IntOp.muli dp 2#32) y) 6#32 xe) 7#32)
    (Scalar.select (IntOp.cmpi .eq (IntOp.addi (IntOp.muli dp 2#32) 1#32) y) 6#32 xo)) 50#32) dp

/-- An entry, or six where the position is masked, is at most six. -/
theorem select_le (c : BitVec 1) (x : BitVec 32) (h : x.toNat < 6) : (Scalar.select c 6#32 x).toNat ≤ 6 := by
  unfold Scalar.select; split
  · decide
  · omega

/-- The word's value, no operation wrapping. -/
theorem toNat_word (xe xo dp y : BitVec 32) (he : xe.toNat < 6) (ho : xo.toNat < 6) (hp : dp.toNat < 50) :
    (word xe xo dp y).toNat
      = ((Scalar.select (IntOp.cmpi .eq (IntOp.muli dp 2#32) y) 6#32 xe).toNat * 7
          + (Scalar.select (IntOp.cmpi .eq (IntOp.addi (IntOp.muli dp 2#32) 1#32) y) 6#32 xo).toNat) * 50 + dp.toNat := by
  have h0 := select_le (IntOp.cmpi .eq (IntOp.muli dp 2#32) y) xe he
  have h1 := select_le (IntOp.cmpi .eq (IntOp.addi (IntOp.muli dp 2#32) 1#32) y) xo ho
  unfold word
  generalize Scalar.select (IntOp.cmpi .eq (IntOp.muli dp 2#32) y) 6#32 xe = a at *
  generalize Scalar.select (IntOp.cmpi .eq (IntOp.addi (IntOp.muli dp 2#32) 1#32) y) 6#32 xo = b at *
  simp only [IntOp.addi, IntOp.muli, BitVec.toNat_add, BitVec.toNat_mul, BitVec.toNat_ofNat]
  omega

/-- The word names a row of the table. -/
theorem word_lt (xe xo dp y : BitVec 32) (he : xe.toNat < 6) (ho : xo.toNat < 6) (hp : dp.toNat < 50) :
    (word xe xo dp y).toNat < 2450 := by
  have h0 := select_le (IntOp.cmpi .eq (IntOp.muli dp 2#32) y) xe he
  have h1 := select_le (IntOp.cmpi .eq (IntOp.addi (IntOp.muli dp 2#32) 1#32) y) xo ho
  rw [toNat_word xe xo dp y he ho hp]
  omega

variable {F : FTy → Type} [FloatOps F]

/-- Sixteen words at once, lane by lane. -/
def words (a b c e : S1x16.Idx → BitVec 32) : S1x16.Idx → BitVec 32 := fun j => word (a j) (b j) (c j) (e j)

/-- A lane of a vector recast flat and back is that lane. -/
theorem lane (v : S1x16.Idx → BitVec 32) (j : S1x16.Idx) :
    shapeCast S16 v shapeCasts_S1x16_S16 (Shape.reshapeEquiv shapeCasts_S16_S1x16 j) = v j :=
  congrFun (shapeCast_shapeCast v shapeCasts_S1x16_S16 shapeCasts_S16_S1x16) j

/-- The body's sixteen-lane computations, in the eight ways its parts cut them, are the word of each lane. -/
theorem pay5_eq (a b c e : Vec F S1x16 .i32) : k1_pay5 a b c e = words a b c e := by
  funext j
  show word _ _ _ _ = word _ _ _ _
  rw [← lane a j, ← lane b j, ← lane c j, ← lane e j]
theorem pay4_eq (a b c e : Vec F S1x16 .i32) : k1_pay4 (k1_pay1 c) (k1_pay2 a b c e) k1_pay3 = words a b c e := pay5_eq a b c e
theorem pay6_eq (a b c e : Vec F S1x16 .i32) : k1_pay6 a b c e = words a b c e := pay5_eq a b c e
theorem pay9_eq (a b c e : Vec F S1x16 .i32) : k1_pay9 (k1_pay7 a) (k1_pay8 b) c e = words a b c e := pay5_eq a b c e
theorem pay16_eq (a b c e : Vec F S1x16 .i32) :
    k1_pay16 (k1_pay10 a) (k1_pay11 b) (k1_pay12 c) (k1_pay13 e) (k1_pay14 c) (k1_pay15 c e) = words a b c e := pay5_eq a b c e
theorem pay22_eq (a b c e : Vec F S1x16 .i32) :
    k1_pay22 (k1_pay17 c) (k1_pay20 a c e) (k1_pay21 b c e) 7#32 = words a b c e := pay5_eq a b c e
theorem pay24_eq (a b c e : Vec F S1x16 .i32) : k1_pay24 (k1_pay23 a b c e) = words a b c e := pay5_eq a b c e
theorem pay25_eq (a b c e : Vec F S1x16 .i32) : k1_pay25 a b c e = words a b c e := pay5_eq a b c e

end Cert.Proof.Lookup

end
-- ==== Proof.Views.lean ====
/-
  What the views of one trip address. A scratch row of 128 words is a (1, 128) buffer seen flat; the copies and
  the gather address it flat, the loads and stores by sixteens. What is copied in flat is what is loaded by
  sixteens, and eight stores of sixteen words, each the words of its places, leave the 128 words.
-/
module

public import proofs.«01_k».proof.Proof.Index

@[expose] public section

noncomputable section

namespace Cert.Proof.Lookup

open Cert.KernelIdeal Cert.KernelIdeal.Gen
open Idealize.ShloMosaic

variable {F : FTy → Type}

/-- The place of a (1, 128) row in the row seen flat. -/
def flat (p : S1x128.Idx) : S128.Idx := fun | 0 => p 1

/-- A (1, 128) row seen flat, as the copies and the gather address it. -/
abbrev line (b : Memref sig .scVector .vmem S1x128 .i32) : Memref sig .scVector .vmem S128 .i32 :=
  (b.slice (Rect.unit (s := S1x128) ![0, 0] S1x128.size inb_S1x128_S1x128_0_0) (fun _ => rfl)).squeeze S128 squeezes_S1x128_S128

/-- The rectangle of the whole (1, 128) row keeps each place. -/
theorem full_emb (p : S1x128.Idx) : (Rect.unit (s := S1x128) ![0, 0] S1x128.size inb_S1x128_S1x128_0_0).emb p = p := by
  funext a
  apply Fin.ext
  match a with
  | 0 => simp
  | 1 => simp

/-- Flattening a place and reading it back as a place of the row is that place. -/
theorem unflat (p : S1x128.Idx) : Shape.reshapeEquiv squeezes_S1x128_S128.numel_eq (flat p) = p := by
  refine Shape.reshapeEquiv_eq_of_rowMajor _ ?_
  rw [Shape.rowMajor_val_two, Shape.rowMajor_val_one]
  have : (p 0).val < 1 := (p 0).isLt
  show (p 0).val * 128 + (p 1).val = (p 1).val
  omega

/-- The row seen flat addresses the row's own elements. -/
theorem line_emb (b : Memref sig .scVector .vmem S1x128 .i32) (p : S1x128.Idx) : (line b).view.emb (flat p) = b.view.emb p := by
  show b.view.emb ((Rect.unit (s := S1x128) ![0, 0] S1x128.size inb_S1x128_S1x128_0_0).emb (Shape.reshapeEquiv squeezes_S1x128_S128.numel_eq (flat p))) = _
  rw [unflat, full_emb]

/-- Reading the row flat is reading the row. -/
theorem line_read (b : Memref sig .scVector .vmem S1x128 .i32) (g : b.view.ty.Contents (Elt F)) (p : S1x128.Idx) :
    (line b).view.read (Elt F) g (flat p) = b.view.read (Elt F) g p := by
  show b.view.read (Elt F) g ((Rect.unit (s := S1x128) ![0, 0] S1x128.size inb_S1x128_S1x128_0_0).emb (Shape.reshapeEquiv squeezes_S1x128_S128.numel_eq (flat p))) = _
  rw [unflat, full_emb]

/-- A load from a row whose contents were copied in flat reads what was copied. -/
theorem landed (b : Memref sig .scVector .vmem S1x128 .i32) (f : b.view.ty.Contents (Elt F)) (w : S128.Idx → Elt F .i32) (R : Rect S1x128) (j : R.shape.Idx) :
    b.view.readAt (Elt F) R.toLoadRect ((line b).view.write (Elt F) f w Finset.univ) j = w (flat (R.emb j)) := by
  rw [View.readAt_rect]
  show b.view.read (Elt F) _ (R.emb j) = _
  rw [← line_read, View.read_write_univ]

/-- The words of sixteen places loaded from four rows copied in flat are the words of what was copied there. -/
theorem words_landed (b₀ b₁ b₂ b₃ : Memref sig .scVector .vmem S1x128 .i32) (f₀ : b₀.view.ty.Contents (Elt F)) (f₁ : b₁.view.ty.Contents (Elt F))
    (f₂ : b₂.view.ty.Contents (Elt F)) (f₃ : b₃.view.ty.Contents (Elt F)) (w₀ w₁ w₂ w₃ : S128.Idx → Elt F .i32)
    (o : Fin 2 → ℕ) (ho : ∀ a, o a + S1x16.size a ≤ S1x128.size a) (j : S1x16.Idx) :
    words (b₀.view.readAt (Elt F) (Rect.unit (s := S1x128) o S1x16.size ho).toLoadRect ((line b₀).view.write (Elt F) f₀ w₀ Finset.univ))
        (b₁.view.readAt (Elt F) (Rect.unit (s := S1x128) o S1x16.size ho).toLoadRect ((line b₁).view.write (Elt F) f₁ w₁ Finset.univ))
        (b₂.view.readAt (Elt F) (Rect.unit (s := S1x128) o S1x16.size ho).toLoadRect ((line b₂).view.write (Elt F) f₂ w₂ Finset.univ))
        (b₃.view.readAt (Elt F) (Rect.unit (s := S1x128) o S1x16.size ho).toLoadRect ((line b₃).view.write (Elt F) f₃ w₃ Finset.univ)) j
      = word (w₀ (flat ((Rect.unit (s := S1x128) o S1x16.size ho).emb j))) (w₁ (flat ((Rect.unit (s := S1x128) o S1x16.size ho).emb j)))
          (w₂ (flat ((Rect.unit (s := S1x128) o S1x16.size ho).emb j))) (w₃ (flat ((Rect.unit (s := S1x128) o S1x16.size ho).emb j))) := by
  unfold words
  have h₀ := landed b₀ f₀ w₀ (Rect.unit (s := S1x128) o S1x16.size ho) j
  have h₁ := landed b₁ f₁ w₁ (Rect.unit (s := S1x128) o S1x16.size ho) j
  have h₂ := landed b₂ f₂ w₂ (Rect.unit (s := S1x128) o S1x16.size ho) j
  have h₃ := landed b₃ f₃ w₃ (Rect.unit (s := S1x128) o S1x16.size ho) j
  rw [h₀, h₁, h₂, h₃]

/-- Entry `k` of a list of 128 words, as the gather counts them. -/
theorem row_named {z : ℕ} (o : S128.Idx → Elt F .i32) (hn : S128.numel = 128) (h : ∀ x, (o x).toNat < z) (k : Fin 128) :
    (SparseCore.rows o hn h k).val = (o (fun | 0 => k)).toNat := by
  unfold SparseCore.rows
  have e : S128.rowMajor.symm (k.cast hn.symm) = fun | 0 => k := by
    rw [Equiv.symm_apply_eq]
    apply Fin.ext
    rw [Shape.rowMajor_val_one]
    rfl
  exact congrArg (fun x => (o x).toNat) e

end Cert.Proof.Lookup

end
-- ==== Proof.Tile.lean ====
/-
  One tile's task: fifty trips, each bringing in the 128 entries of the four index arrays at the trip's places,
  computing the 128 rows to read (`words`), gathering those rows of the table, and writing them out to the
  trip's rows of the result. Stated at a symbolic core and tile and any contents of the five arrays read, whose
  words are rows of the table: the tile's 6400 rows of the result end at the table's rows the words name.
-/
module

public import proofs.«01_k».proof.Proof.Views

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.KernelIdeal.main_v3_scv : Memref Cert.KernelIdeal.sig Kind.scVector Space.hbm Cert.KernelIdeal.S2450x128 EltTy.f32)
local notation "eV" => (Memref.whole Cert.KernelIdeal.main_v5_scv : Memref Cert.KernelIdeal.sig Kind.scVector Space.hbm Cert.KernelIdeal.S204800 EltTy.i32)
local notation "oV" => (Memref.whole Cert.KernelIdeal.main_v7_scv : Memref Cert.KernelIdeal.sig Kind.scVector Space.hbm Cert.KernelIdeal.S204800 EltTy.i32)
local notation "pV" => (Memref.whole Cert.KernelIdeal.main_v11_scv : Memref Cert.KernelIdeal.sig Kind.scVector Space.hbm Cert.KernelIdeal.S204800 EltTy.i32)
local notation "yV" => (Memref.whole Cert.KernelIdeal.main_v13_scv : Memref Cert.KernelIdeal.sig Kind.scVector Space.hbm Cert.KernelIdeal.S204800 EltTy.i32)
local notation "rV" => (Memref.whole Cert.KernelIdeal.main_v14_scv : Memref Cert.KernelIdeal.sig Kind.scVector Space.hbm Cert.KernelIdeal.S204800x128 EltTy.f32)
local notation "b0" => (Memref.whole Cert.KernelIdeal.cc1_scratch0 : Memref Cert.KernelIdeal.sig Kind.scVector Space.vmem Cert.KernelIdeal.S1x128 EltTy.i32)
local notation "b1" => (Memref.whole Cert.KernelIdeal.cc1_scratch1 : Memref Cert.KernelIdeal.sig Kind.scVector Space.vmem Cert.KernelIdeal.S1x128 EltTy.i32)
local notation "b2" => (Memref.whole Cert.KernelIdeal.cc1_scratch2 : Memref Cert.KernelIdeal.sig Kind.scVector Space.vmem Cert.KernelIdeal.S1x128 EltTy.i32)
local notation "b3" => (Memref.whole Cert.KernelIdeal.cc1_scratch3 : Memref Cert.KernelIdeal.sig Kind.scVector Space.vmem Cert.KernelIdeal.S1x128 EltTy.i32)
local notation "b4" => (Memref.whole Cert.KernelIdeal.cc1_scratch4 : Memref Cert.KernelIdeal.sig Kind.scVector Space.vmem Cert.KernelIdeal.S1x128 EltTy.i32)
local notation "b5" => (Memref.whole Cert.KernelIdeal.cc1_scratch5 : Memref Cert.KernelIdeal.sig Kind.scVector Space.vmem Cert.KernelIdeal.S1x128x128 EltTy.f32)

/-- The contents of the five arrays the tiles read: the table, the even and the odd entries, the pair numbers and
    the masked positions. -/
structure Src (F : FTy → Type) where
  tab : S2450x128.Idx → Elt F .f32
  xe : S204800.Idx → Elt F .i32
  xo : S204800.Idx → Elt F .i32
  dp : S204800.Idx → Elt F .i32
  ys : S204800.Idx → Elt F .i32

/-- The row of the table place `p` names. -/
def Src.at (A : Src F) (p : S204800.Idx) : BitVec 32 := word (A.xe p) (A.xo p) (A.dp p) (A.ys p)

/-- Every place names a row of the table. -/
def Src.Ok (A : Src F) : Prop := ∀ p, (A.at p).toNat < 2450

/-- The place a row of the result holds. -/
def place (r : S204800x128.Idx) : S204800.Idx := fun | 0 => r 0

/-- The place of the result `r` in the table, its row read modulo the table's. -/
def source (A : Src F) (r : S204800x128.Idx) : S2450x128.Idx :=
  fun | 0 => (⟨(A.at (place r)).toNat % 2450, Nat.mod_lt _ (by decide)⟩ : Fin 2450) | 1 => r 1

/-- What the tiles leave in the result: at each place the table's row named there. -/
def Src.result (A : Src F) (r : S204800x128.Idx) : Elt F .f32 := A.tab (source A r)

section Tile

variable (d : Dev nD) (L : grid1.Coords)

abbrev cV (L : grid1.Coords) : Fin τ.nSC := (L 0).castLE hcore1
abbrev jV (L : grid1.Coords) : Fin τ.nSub := (L 1).castLE hsub1

/-- The tile's rows of the result. -/
def rows (L : grid1.Coords) : Finset S204800x128.Idx := Finset.univ.filter fun r => (r 0).val / 6400 = 2 * (L 1).val + (L 0).val

/-- The trip's rows of the result, as the body addresses them. -/
abbrev chunk (L : grid1.Coords) (k : Fin k1_t1_loop.trips) : Memref sig .scVector .hbm S128x128 .f32 :=
  (rV).slice (Rect.unit (s := S204800x128) (k1_off2 L k) S128x128.size (k1_off2_inb L k)) (fun _ => rfl)

/-- The task's program. -/
abbrev trip [FloatOps F] (v2 : BitVec 32) :=
  k1_t1_body (F := F) L tV (Memref.isWhole_whole _) eV (Memref.isWhole_whole _) oV (Memref.isWhole_whole _) pV (Memref.isWhole_whole _)
    yV (Memref.isWhole_whole _) rV (Memref.isWhole_whole _) b0 (Memref.isWhole_whole _) b1 (Memref.isWhole_whole _) b2 (Memref.isWhole_whole _)
    b3 (Memref.isWhole_whole _) b4 (Memref.isWhole_whole _) b5 (Memref.isWhole_whole _) cc1_scratch6 cc1_scoped0 cc1_scoped1 cc1_scoped2 cc1_scoped3 cc1_scoped4 v2

/-- Between trips: the five arrays read at their contents, the scratch at anything, the cells at zero, and the tile's
    rows of the result, those before the trip's first place at what they end at. -/
def inv (A : Src F) (q : PosShare TreeShare) (O : CellTallies nD τ sig (HIx 1)) (W : Waits sig (HIx 1)) (k : Nat) (_ : PUnit) : sProp 𝕄 :=
  iprop(Transfers.MayWaits (V d (cV L) (jV L)) (default : HIx 1) O
    ∗ ((tV).view.loc (V d (cV L) (jV L)) ↦{q} A.tab)
    ∗ ((eV).view.loc (V d (cV L) (jV L)) ↦{q} A.xe)
    ∗ ((oV).view.loc (V d (cV L) (jV L)) ↦{q} A.xo)
    ∗ ((pV).view.loc (V d (cV L) (jV L)) ↦{q} A.dp)
    ∗ ((yV).view.loc (V d (cV L) (jV L)) ↦{q} A.ys)
    ∗ (∃ f, ⌜∀ r ∈ rows L, (r 0).val < 6400 * (2 * (L 1).val + (L 0).val) + 128 * k → f r = A.result r⌝
        ∗ ((rV).view.loc (V d (cV L) (jV L)) ↦[rows L]{fullShare} f))
    ∗ (∃ f, (b0).view.loc (V d (cV L) (jV L)) ↦{fullShare} f)
    ∗ (∃ f, (b1).view.loc (V d (cV L) (jV L)) ↦{fullShare} f)
    ∗ (∃ f, (b2).view.loc (V d (cV L) (jV L)) ↦{fullShare} f)
    ∗ (∃ f, (b3).view.loc (V d (cV L) (jV L)) ↦{fullShare} f)
    ∗ (∃ f, (b4).view.loc (V d (cV L) (jV L)) ↦{fullShare} f)
    ∗ (∃ f, (b5).view.loc (V d (cV L) (jV L)) ↦{fullShare} f)
    ∗ semVal (V d (cV L) (jV L), SemLoc.dma cc1_scratch6.sem) 0
    ∗ semVal (V d (cV L) (jV L), SemLoc.dma cc1_scoped0.sem) 0
    ∗ semVal (V d (cV L) (jV L), SemLoc.dma cc1_scoped1.sem) 0
    ∗ semVal (V d (cV L) (jV L), SemLoc.dma cc1_scoped2.sem) 0
    ∗ semVal (V d (cV L) (jV L), SemLoc.dma cc1_scoped3.sem) 0
    ∗ semVal (V d (cV L) (jV L), SemLoc.dma cc1_scoped4.sem) 0
    ∗ ∃ W', ⌜∀ p ∈ W', p ∈ W ∨ p.2 = none⌝ ∗ owes (V d (cV L) (jV L)) O W')

/-- Place `x` of the trip's 128. -/
def entry (L : grid1.Coords) (k : Fin k1_t1_loop.trips) (x : S128.Idx) : S204800.Idx :=
  (Rect.unit (s := S204800) (k1_off1 L k) S128.size (k1_off1_inb L k)).emb x

/-- Trip `k`'s rows of the result are the 128 from the tile's first plus `128·k` on. -/
theorem mem_chunk (k : Fin k1_t1_loop.trips) (r : S204800x128.Idx) :
    r ∈ (chunk L k).view.set ↔ 6400 * (2 * (L 1).val + (L 0).val) + 128 * k.val ≤ (r 0).val
      ∧ (r 0).val < 6400 * (2 * (L 1).val + (L 0).val) + 128 * k.val + 128 := by
  have e : (chunk L k).view.set = (Rect.unit (s := S204800x128) (k1_off2 L k) S128x128.size (k1_off2_inb L k)).set := by
    show ((View.whole (main_v14_scv : Ref sig .scVector)).slice _).set = _
    rw [View.set_slice]; exact Finset.map_refl
  rw [e, Rect.mem_set_unit, k1_off2_eq]
  constructor
  · intro h
    have h0 := h 0
    change 12800 * (L 1).val + 6400 * (L 0).val + 128 * k.val ≤ (r 0).val ∧ (r 0).val < 12800 * (L 1).val + 6400 * (L 0).val + 128 * k.val + 128 at h0
    omega
  · intro h a
    match a with
    | 0 =>
      show 12800 * (L 1).val + 6400 * (L 0).val + 128 * k.val ≤ (r 0).val ∧ (r 0).val < 12800 * (L 1).val + 6400 * (L 0).val + 128 * k.val + 128
      omega
    | 1 => exact ⟨Nat.zero_le _, by have : (r 1).val < 128 := (r 1).isLt; show (r 1).val < 0 + 128; omega⟩

/-- There are fifty trips. -/
theorem trips_eq : k1_t1_loop.trips = 50 := by decide

/-- A trip's rows are the tile's. -/
theorem chunk_sub (k : Fin k1_t1_loop.trips) : (chunk L k).view.set ⊆ rows L := by
  intro r hr
  have h := (mem_chunk L k r).mp hr
  have hk : k.val < 50 := trips_eq ▸ k.isLt
  refine Finset.mem_filter.mpr ⟨Finset.mem_univ _, ?_⟩
  omega

/-- The place a trip's row of the result holds is the trip's entry of that number. -/
theorem place_chunk (k : Fin k1_t1_loop.trips) (j : S128x128.Idx) : place ((chunk L k).view.emb j) = entry L k (fun | 0 => j 0) := by
  funext a
  apply Fin.ext
  match a with
  | 0 =>
    show k1_off2 L k 0 + 1 * (j 0).val = k1_off1 L k 0 + 1 * (j 0).val
    rw [k1_off2_eq, k1_off1_eq]
    rfl

/-- The table as the gather addresses it. -/
abbrev table : Memref sig .scVector .hbm S2450x128 .f32 :=
  (tV).slice (Rect.unit (s := S2450x128) ![0, 0] S2450x128.size inb_S2450x128_S2450x128_0_0) (fun _ => rfl)

/-- What the gather brings, from a list holding the trip's words, is the trip's rows of the result. -/
theorem gathered (A : Src F) (hA : A.Ok) (k : Fin k1_t1_loop.trips) (o : S128.Idx → Elt F .i32) (ho : ∀ x, o x = A.at (entry L k x))
    (hn : S128.numel = S128x128.size gathers_S2450x128_S128x128.axis') (hin : ∀ x, (o x).toNat < S2450x128.size gathers_S2450x128_S128x128.axis) (j : S128x128.Idx) :
    SparseCore.gatherPayload gathers_S2450x128_S128x128 ((table).view.read (Elt F) A.tab) (SparseCore.rows o hn hin) j
      = A.result ((chunk L k).view.emb j) := by
  show A.tab ((Rect.unit (s := S2450x128) ![0, 0] S2450x128.size inb_S2450x128_S2450x128_0_0).emb
    (gathers_S2450x128_S128x128.idx (SparseCore.rows o hn hin) j)) = A.tab (source A ((chunk L k).view.emb j))
  congr 1
  funext a
  apply Fin.ext
  match a with
  | 0 =>
    show 0 + 1 * (gathers_S2450x128_S128x128.idx (SparseCore.rows o hn hin) j gathers_S2450x128_S128x128.axis).val = (A.at (place ((chunk L k).view.emb j))).toNat % 2450
    rw [Shape.Gathers.idx_axis, place_chunk, Nat.mod_eq_of_lt (hA _), ← ho]
    have h : (SparseCore.rows o hn hin (j gathers_S2450x128_S128x128.axis')).val = (o (fun | 0 => j 0)).toNat := row_named o hn hin _
    rw [h, Nat.zero_add, Nat.one_mul]
  | 1 =>
    show 0 + 1 * (gathers_S2450x128_S128x128.idx (SparseCore.rows o hn hin) j 1).val = 0 + 1 * (j 1).val
    rw [Shape.Gathers.idx_of_ne _ _ _ _ (by decide)]
    rfl

variable [FloatOps F]

set_option maxHeartbeats 4000000 in
/-- One trip keeps the invariant. -/
theorem trip_run (A : Src F) (hA : A.Ok) (q : PosShare TreeShare) (O : CellTallies nD τ sig (HIx 1)) (W : Waits sig (HIx 1)) (v2 : BitVec 32) (k : Fin k1_t1_loop.trips) (u : PUnit) :
    inv d L A q O W k u ⊢ wp frame (wpE (defs₀ (F := F)) 𝒱₀ (V d (cV L) (jV L)) none) Set.univ (trip L v2 k u) (inv d L A q O W (k + 1)) := by
  unfold trip k1_t1_body
  simp only [k1_part1_eq_skeleton, k1_part2_eq_skeleton, k1_part3_eq_skeleton, k1_part4_eq_skeleton, k1_part5_eq_skeleton, k1_part6_eq_skeleton, k1_part7_eq_skeleton, k1_part8_eq_skeleton]
  unfold inv
  iintro ⟨Hmw, Ht, He, Ho, Hp, Hy, ⟨%f, %hf, Hr⟩, ⟨%f0, H0⟩, ⟨%f1, H1⟩, ⟨%f2, H2⟩, ⟨%f3, H3⟩, ⟨%f4, H4⟩, ⟨%f5, H5⟩, Hg, Hs0, Hs1, Hs2, Hs3, Hs4, %W', %hW', HO⟩
  ihave Hr := (pointsTo_split_subset (chunk_sub L k)).1 $$ Hr
  icases Hr with ⟨Hc, Hr⟩
  ihave Hc := (Entails.of_eq (show ((rV).view.loc (V d (cV L) (jV L)) ↦[(chunk L k).view.set]{fullShare} f : sProp 𝕄)
      = (chunk L k).view.loc (V d (cV L) (jV L)) ↦[(chunk L k).view.set]{fullShare} f from rfl)) $$ Hc
  sl_exec
  -- what the eight stores left: each place's word
  have hw : ∀ p : S1x128.Idx, (b4).view.read (Elt F) ((b4).view.writes (Elt F) (b4).view.junk (trip_run.sl.H4_8 d L A k f0 f1 f2 f3)) p
      = A.at (entry L k (flat p)) := by
    intro p
    refine View.read_writes_apply_of_pieces (Val := Elt F) (b4).view _ (fun p => A.at (entry L k (flat p))) _ ?_ p ?_
    · unfold trip_run.sl.H4_8
      simp only [List.forall_mem_cons]
      refine ⟨fun x => ?_, fun x => ?_, fun x => ?_, fun x => ?_, fun x => ?_, fun x => ?_, fun x => ?_, fun x => ?_, fun p hp => absurd hp List.not_mem_nil⟩
      · exact (congrFun (pay25_eq _ _ _ _) x).trans (words_landed ..)
      · exact (congrFun (pay24_eq _ _ _ _) x).trans (words_landed ..)
      · exact (congrFun (pay22_eq _ _ _ _) x).trans (words_landed ..)
      · exact (congrFun (pay16_eq _ _ _ _) x).trans (words_landed ..)
      · exact (congrFun (pay9_eq _ _ _ _) x).trans (words_landed ..)
      · exact (congrFun (pay6_eq _ _ _ _) x).trans (words_landed ..)
      · exact (congrFun (pay5_eq _ _ _ _) x).trans (words_landed ..)
      · exact (congrFun (pay4_eq _ _ _ _) x).trans (words_landed ..)
    · exact View.cover_of_tiled _ ![1, 16] rfl p
  have hl : ∀ x : S128.Idx, (line b4).view.read (Elt F) ((b4).view.writes (Elt F) (b4).view.junk (trip_run.sl.H4_8 d L A k f0 f1 f2 f3)) x
      = A.at (entry L k x) := by
    intro x
    have e : x = flat (fun | 0 => (0 : Fin 1) | 1 => x 0) := by funext a; match a with | 0 => rfl
    rw [e, line_read, hw]
  have hin : ∀ x : S128.Idx, BitVec.toNat ((line b4).view.read (Elt F) ((b4).view.writes (Elt F) (b4).view.junk (trip_run.sl.H4_8 d L A k f0 f1 f2 f3)) x)
      < S2450x128.size gathers_S2450x128_S128x128.axis := fun x => by rw [hl]; exact hA _
  sl_exec
  sl_step
  -- what was copied out: the trip's rows of the result
  have hd : ∀ j, trip_run.sl.dma0_4 d L A k f0 f1 f2 f3 f5 hin j = A.result ((chunk L k).view.emb j) := by
    intro j
    refine (congrFun (View.read_write_univ ..) j).trans ?_
    exact gathered L A hA k _ hl _ hin j
  have hG : ∀ r ∈ (chunk L k).view.set, (chunk L k).view.writes (Elt F) f [⟨Rect.whole S128x128, trip_run.sl.dma0_4 d L A k f0 f1 f2 f3 f5 hin⟩] r = A.result r := by
    intro r hr
    obtain ⟨j, -, rfl⟩ := Finset.mem_map.mp hr
    refine Eq.trans ?_ (hd j)
    have h := View.read_writes_cons_emb (Val := Elt F) (chunk L k).view f (Rect.whole S128x128) (trip_run.sl.dma0_4 d L A k f0 f1 f2 f3 f5 hin) [] j
    rw [Rect.emb_whole_apply] at h
    exact h
  have hf' : ∀ r ∈ rows L \ (chunk L k).view.set, f r = (chunk L k).view.writes (Elt F) f [⟨Rect.whole S128x128, trip_run.sl.dma0_4 d L A k f0 f1 f2 f3 f5 hin⟩] r := by
    intro r hr
    refine (View.writes_apply_of_forall_ne (Val := Elt F) (chunk L k).view f _ fun y e => ?_).symm
    exact (Finset.mem_sdiff.mp hr).2 (e ▸ View.emb_mem_set (chunk L k).view y)
  ihave Hr := (Entails.of_eq (pointsTo_congr hf')) $$ Hr
  ihave Hr := (pointsTo_split_subset (ℓ := (rV).view.loc (V d (cV L) (jV L))) (q := fullShare)
    (f := (chunk L k).view.writes (Elt F) f [⟨Rect.whole S128x128, trip_run.sl.dma0_4 d L A k f0 f1 f2 f3 f5 hin⟩]) (chunk_sub L k)).2 $$ [Hc Hr]
  · isplitl [Hc] <;> iassumption
  isplitl [Hmw]; · iexact Hmw
  isplitl [Ht]; · iexact Ht
  isplitl [He]; · iexact He
  isplitl [Ho]; · iexact Ho
  isplitl [Hp]; · iexact Hp
  isplitl [Hy]; · iexact Hy
  isplitl [Hr]
  · iexists _
    isplitr
    swap; · iexact Hr
    ipureintro
    intro r hr hlt
    by_cases hc : r ∈ (chunk L k).view.set
    · exact hG r hc
    · rw [← hf' r (Finset.mem_sdiff.mpr ⟨hr, hc⟩)]
      refine hf r hr ?_
      rw [mem_chunk] at hc
      omega
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [Hg]; · iexact Hg
  isplitl [Hs0]; · iexact Hs0
  isplitl [Hs1]; · iexact Hs1
  isplitl [Hs2]; · iexact Hs2
  isplitl [Hs3]; · iexact Hs3
  isplitl [Hs4]; · iexact Hs4
  iexists _
  isplitr
  swap; · iexact HO
  ipureintro
  intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

/-! ## The task -/

/-- The five arrays a tile reads, at share `q`. -/
abbrev reads (A : Src F) (q : PosShare TreeShare) : sProp 𝕄 :=
  iprop((tLoc d ↦{q} A.tab) ∗ (eLoc d ↦{q} A.xe) ∗ (oLoc d ↦{q} A.xo) ∗ (pLoc d ↦{q} A.dp) ∗ (yLoc d ↦{q} A.ys))

omit [FloatOps F] in
theorem cell_ne {thr : Thread nD τ} {s s' : DmaSem sig} (h : (SemLoc.dma s : SemLoc sig) ≠ SemLoc.dma s') : ((thr, SemLoc.dma s) : GSem nD τ sig) ≠ (thr, SemLoc.dma s') :=
  fun e => h (Prod.mk.inj e).2

abbrev cell (c : Fin τ.nSC) (i : Fin τ.nSub) (s : DmaSems sig S_) : GSem nD τ sig := (V d c i, SemLoc.dma s.sem)

omit [FloatOps F] in
/-- The six cells the task waits on are among the subcore's own: they are them, at zero, and the rest. -/
theorem ownSems0_V :
    (ownSems0 (V d (cV L) (jV L)) : sProp 𝕄)
      = iprop(semVal (cell d (cV L) (jV L) cc1_scratch6) 0 ∗ semVal (cell d (cV L) (jV L) cc1_scoped0) 0 ∗ semVal (cell d (cV L) (jV L) cc1_scoped1) 0
          ∗ semVal (cell d (cV L) (jV L) cc1_scoped2) 0 ∗ semVal (cell d (cV L) (jV L) cc1_scoped3) 0 ∗ semVal (cell d (cV L) (jV L) cc1_scoped4) 0
          ∗ bigSep (((((((ownCells (V d (cV L) (jV L))).erase (cell d (cV L) (jV L) cc1_scratch6)).erase (cell d (cV L) (jV L) cc1_scoped0)).erase
              (cell d (cV L) (jV L) cc1_scoped1)).erase (cell d (cV L) (jV L) cc1_scoped2)).erase (cell d (cV L) (jV L) cc1_scoped3)).erase (cell d (cV L) (jV L) cc1_scoped4))
              fun g => semVal g 0) := by
  unfold SparseCore.Cfg.ownSems0
  have hm : ∀ s : DmaSems sig S_, (SemLoc.dma s.sem : SemLoc sig).isScoped .scVector = true → cell d (cV L) (jV L) s ∈ ownCells (V d (cV L) (jV L)) :=
    fun s h => mem_ownCells.mpr ⟨rfl, h⟩
  rw [SparseCore.bigSep_erase' (hm cc1_scratch6 (by decide)),
    SparseCore.bigSep_erase' (Finset.mem_erase.mpr ⟨cell_ne (by decide), hm cc1_scoped0 (by decide)⟩),
    SparseCore.bigSep_erase' (Finset.mem_erase.mpr ⟨cell_ne (by decide), Finset.mem_erase.mpr ⟨cell_ne (by decide), hm cc1_scoped1 (by decide)⟩⟩),
    SparseCore.bigSep_erase' (Finset.mem_erase.mpr ⟨cell_ne (by decide), Finset.mem_erase.mpr ⟨cell_ne (by decide), Finset.mem_erase.mpr ⟨cell_ne (by decide),
      hm cc1_scoped2 (by decide)⟩⟩⟩),
    SparseCore.bigSep_erase' (Finset.mem_erase.mpr ⟨cell_ne (by decide), Finset.mem_erase.mpr ⟨cell_ne (by decide), Finset.mem_erase.mpr ⟨cell_ne (by decide),
      Finset.mem_erase.mpr ⟨cell_ne (by decide), hm cc1_scoped3 (by decide)⟩⟩⟩⟩),
    SparseCore.bigSep_erase' (Finset.mem_erase.mpr ⟨cell_ne (by decide), Finset.mem_erase.mpr ⟨cell_ne (by decide), Finset.mem_erase.mpr ⟨cell_ne (by decide),
      Finset.mem_erase.mpr ⟨cell_ne (by decide), Finset.mem_erase.mpr ⟨cell_ne (by decide), hm cc1_scoped4 (by decide)⟩⟩⟩⟩⟩)]

abbrev scratch (c : Fin τ.nSC) (i : Fin τ.nSub) (b : Ref sig .scVector) : DevRef τ sig := (Proc.scVector c i).devRef b

omit [FloatOps F] in
/-- The six scratch buffers are among the subcore's own: they are them, at some contents, and the rest. -/
theorem ownBufs_V :
    (ownBufs (V d (cV L) (jV L)) : sProp 𝕄)
      = iprop((∃ f, (b0).view.loc (V d (cV L) (jV L)) ↦{fullShare} f) ∗ (∃ f, (b1).view.loc (V d (cV L) (jV L)) ↦{fullShare} f)
          ∗ (∃ f, (b2).view.loc (V d (cV L) (jV L)) ↦{fullShare} f) ∗ (∃ f, (b3).view.loc (V d (cV L) (jV L)) ↦{fullShare} f)
          ∗ (∃ f, (b4).view.loc (V d (cV L) (jV L)) ↦{fullShare} f) ∗ (∃ f, (b5).view.loc (V d (cV L) (jV L)) ↦{fullShare} f)
          ∗ bigSep (((((((ownRefs (τ := τ) (.scVector (cV L) (jV L))).erase (scratch (cV L) (jV L) cc1_scratch0)).erase (scratch (cV L) (jV L) cc1_scratch1)).erase
              (scratch (cV L) (jV L) cc1_scratch2)).erase (scratch (cV L) (jV L) cc1_scratch3)).erase (scratch (cV L) (jV L) cc1_scratch4)).erase (scratch (cV L) (jV L) cc1_scratch5))
              fun b => iprop(∃ f, ((d, b) : Loc nD τ sig) ↦{fullShare} f)) := by
  unfold SparseCore.Cfg.ownBufs
  have hne : ∀ {b b' : Ref sig .scVector}, b ≠ b' → scratch (cV L) (jV L) b ≠ scratch (cV L) (jV L) b' := fun h e => h (Proc.devRef_injective _ e)
  have hm : ∀ b : Ref sig .scVector, (scratch (cV L) (jV L) b).owner = .proc (.scVector (cV L) (jV L)) → scratch (cV L) (jV L) b ∈ ownRefs (τ := τ) (.scVector (cV L) (jV L)) :=
    fun b h => SparseCore.Cfg.mem_ownRefs_of_owner h
  refine (SparseCore.bigSep_erase' (hm cc1_scratch0 rfl)).trans ?_
  rw [SparseCore.bigSep_erase' (Finset.mem_erase.mpr ⟨hne (by decide), hm cc1_scratch1 rfl⟩),
    SparseCore.bigSep_erase' (Finset.mem_erase.mpr ⟨hne (by decide), Finset.mem_erase.mpr ⟨hne (by decide), hm cc1_scratch2 rfl⟩⟩),
    SparseCore.bigSep_erase' (Finset.mem_erase.mpr ⟨hne (by decide), Finset.mem_erase.mpr ⟨hne (by decide), Finset.mem_erase.mpr ⟨hne (by decide),
      hm cc1_scratch3 rfl⟩⟩⟩),
    SparseCore.bigSep_erase' (Finset.mem_erase.mpr ⟨hne (by decide), Finset.mem_erase.mpr ⟨hne (by decide), Finset.mem_erase.mpr ⟨hne (by decide),
      Finset.mem_erase.mpr ⟨hne (by decide), hm cc1_scratch4 rfl⟩⟩⟩⟩),
    SparseCore.bigSep_erase' (Finset.mem_erase.mpr ⟨hne (by decide), Finset.mem_erase.mpr ⟨hne (by decide), Finset.mem_erase.mpr ⟨hne (by decide),
      Finset.mem_erase.mpr ⟨hne (by decide), Finset.mem_erase.mpr ⟨hne (by decide), hm cc1_scratch5 rfl⟩⟩⟩⟩⟩)]

set_option maxHeartbeats 4000000 in
/-- The task of tile `(L 0, L 1)`: from read shares of the five arrays and its rows of the result at anything, its
    rows end at the table's rows its words name; the arrays read, the scratch and the cells come back. -/
theorem tile_body (hF : (K (F := F)).Facts) (A : Src F) (hA : A.Ok) (q : PosShare TreeShare) (g : S204800x128.Idx → Elt F .f32)
    (O : CellTallies nD τ sig (HIx 1)) (W : Waits sig (HIx 1)) (hO : ∀ g, O g none = 0) :
    iprop(levAts (K (F := F)).L (K (F := F)).lev ∗ emp
        ∗ (reads d A q ∗ (rLoc d ↦[rows L]{fullShare} g))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_body L tV (Memref.isWhole_whole _) eV (Memref.isWhole_whole _) oV (Memref.isWhole_whole _) pV (Memref.isWhole_whole _)
            yV (Memref.isWhole_whole _) rV (Memref.isWhole_whole _) b0 (Memref.isWhole_whole _) b1 (Memref.isWhole_whole _) b2 (Memref.isWhole_whole _)
            b3 (Memref.isWhole_whole _) b4 (Memref.isWhole_whole _) b5 (Memref.isWhole_whole _) cc1_scratch6 cc1_scoped0 cc1_scoped1 cc1_scoped2 cc1_scoped3 cc1_scoped4)
          fun _ => iprop((reads d A q ∗ (rLoc d ↦[rows L]{fullShare} A.result))
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [cc1__sc_body_eq_skeleton]; unfold cc1__sc_body_skel
  dsimp only
  rw [(K (F := F)).scopedBufs_V hF d (cV L) (jV L), SparseCore.Cfg.scopedSems0_V (Val := Elt F) d (cV L) (jV L), ownSems0_V, ownBufs_V]
  iintro ⟨#Hlv, -, ⟨⟨Ht, He, Ho, Hp, Hy⟩, Hr⟩, ⟨H0, H1, H2, H3, H4, H5, Hbufs⟩, ⟨Hg, Hs0, Hs1, Hs2, Hs3, Hs4, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  sl_for (inv d L A q O W) $$ [Hmw Ht He Ho Hp Hy Hr H0 H1 H2 H3 H4 H5 Hg Hs0 Hs1 Hs2 Hs3 Hs4 HO]
  case region =>
    intro k u
    exact trip_run d L A hA q O W _ k u
  · unfold inv
    isplitl [Hmw]; · iexact Hmw
    isplitl [Ht]; · iexact Ht
    isplitl [He]; · iexact He
    isplitl [Ho]; · iexact Ho
    isplitl [Hp]; · iexact Hp
    isplitl [Hy]; · iexact Hy
    isplitl [Hr]
    · iexists g
      isplitr
      · ipureintro
        intro r hr hlt
        have := (Finset.mem_filter.mp hr).2
        omega
      · iexact Hr
    isplitl [H0]; · iexact H0
    isplitl [H1]; · iexact H1
    isplitl [H2]; · iexact H2
    isplitl [H3]; · iexact H3
    isplitl [H4]; · iexact H4
    isplitl [H5]; · iexact H5
    isplitl [Hg]; · iexact Hg
    isplitl [Hs0]; · iexact Hs0
    isplitl [Hs1]; · iexact Hs1
    isplitl [Hs2]; · iexact Hs2
    isplitl [Hs3]; · iexact Hs3
    isplitl [Hs4]; · iexact Hs4
    iexists W; isplitr
    · ipureintro; exact fun p hp => .inl hp
    · iexact HO
  iintro %_ HI
  unfold inv
  icases HI with ⟨-, Ht, He, Ho, Hp, Hy, ⟨%f, %hf, Hr⟩, H0, H1, H2, H3, H4, H5, Hg, Hs0, Hs1, Hs2, Hs3, Hs4, %W', %hW', HO⟩
  have hfin : ∀ r ∈ rows L, f r = A.result r := by
    intro r hr
    refine hf r hr ?_
    have h := (Finset.mem_filter.mp hr).2
    have e : Scf.trips k1_t1_loop.lb k1_t1_loop.ub k1_t1_loop.st = 50 := trips_eq
    omega
  ihave Hr := (Entails.of_eq (pointsTo_congr hfin)) $$ Hr
  sl_step
  isplitl [Ht He Ho Hp Hy Hr]
  · isplitl [Ht He Ho Hp Hy]
    · isplitl [Ht]; · iexact Ht
      isplitl [He]; · iexact He
      isplitl [Ho]; · iexact Ho
      isplitl [Hp]; · iexact Hp
      iexact Hy
    · iexact Hr
  isplitl [H0 H1 H2 H3 H4 H5 Hbufs]
  · isplitl [H0]; · iexact H0
    isplitl [H1]; · iexact H1
    isplitl [H2]; · iexact H2
    isplitl [H3]; · iexact H3
    isplitl [H4]; · iexact H4
    isplitl [H5]; · iexact H5
    iexact Hbufs
  isplitl [Hg Hs0 Hs1 Hs2 Hs3 Hs4 Hsems]
  · isplitl [Hg]; · iexact Hg
    isplitl [Hs0]; · iexact Hs0
    isplitl [Hs1]; · iexact Hs1
    isplitl [Hs2]; · iexact Hs2
    isplitl [Hs3]; · iexact Hs3
    isplitl [Hs4]; · iexact Hs4
    iexact Hsems
  iexists W'; isplitr
  · ipureintro; exact hW'
  · iexact HO

end Tile

end Cert.Proof.Lookup

end
-- ==== Proof.Deal.lean ====
/-
  What the handshakes of the SparseCore call carry: each of the 32 tiles takes a read share of the five arrays and its
  own 6400 rows of the result, and brings them back with its rows filled. The five arrays held whole are the shares of
  all the tiles at once, and the result held whole is the tiles' rows at once, so the call is dealt and gathered by
  two equations.
-/
module

public import proofs.«01_k».proof.Proof.Tile
public import Idealize.ShloMosaic.Lib.ShareLeaves

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves
open Idealize.ShloMosaic.Tactic

variable {F : FTy → Type}

local notation "𝕄" => MT nD τ sig (HIx 1) (Elt F) ℕ UU ℕ
local notation "tV" => (Memref.whole Cert.KernelIdeal.main_v3_scv : Memref Cert.KernelIdeal.sig Kind.scVector Space.hbm Cert.KernelIdeal.S2450x128 EltTy.f32)
local notation "eV" => (Memref.whole Cert.KernelIdeal.main_v5_scv : Memref Cert.KernelIdeal.sig Kind.scVector Space.hbm Cert.KernelIdeal.S204800 EltTy.i32)
local notation "oV" => (Memref.whole Cert.KernelIdeal.main_v7_scv : Memref Cert.KernelIdeal.sig Kind.scVector Space.hbm Cert.KernelIdeal.S204800 EltTy.i32)
local notation "pV" => (Memref.whole Cert.KernelIdeal.main_v11_scv : Memref Cert.KernelIdeal.sig Kind.scVector Space.hbm Cert.KernelIdeal.S204800 EltTy.i32)
local notation "yV" => (Memref.whole Cert.KernelIdeal.main_v13_scv : Memref Cert.KernelIdeal.sig Kind.scVector Space.hbm Cert.KernelIdeal.S204800 EltTy.i32)
local notation "rV" => (Memref.whole Cert.KernelIdeal.main_v14_scv : Memref Cert.KernelIdeal.sig Kind.scVector Space.hbm Cert.KernelIdeal.S204800x128 EltTy.f32)
local notation "b0" => (Memref.whole Cert.KernelIdeal.cc1_scratch0 : Memref Cert.KernelIdeal.sig Kind.scVector Space.vmem Cert.KernelIdeal.S1x128 EltTy.i32)
local notation "b1" => (Memref.whole Cert.KernelIdeal.cc1_scratch1 : Memref Cert.KernelIdeal.sig Kind.scVector Space.vmem Cert.KernelIdeal.S1x128 EltTy.i32)
local notation "b2" => (Memref.whole Cert.KernelIdeal.cc1_scratch2 : Memref Cert.KernelIdeal.sig Kind.scVector Space.vmem Cert.KernelIdeal.S1x128 EltTy.i32)
local notation "b3" => (Memref.whole Cert.KernelIdeal.cc1_scratch3 : Memref Cert.KernelIdeal.sig Kind.scVector Space.vmem Cert.KernelIdeal.S1x128 EltTy.i32)
local notation "b4" => (Memref.whole Cert.KernelIdeal.cc1_scratch4 : Memref Cert.KernelIdeal.sig Kind.scVector Space.vmem Cert.KernelIdeal.S1x128 EltTy.i32)
local notation "b5" => (Memref.whole Cert.KernelIdeal.cc1_scratch5 : Memref Cert.KernelIdeal.sig Kind.scVector Space.vmem Cert.KernelIdeal.S1x128x128 EltTy.f32)

/-! ## The tiles -/

/-- Tile `s` of SparseCore `c`, as the body's coordinates. -/
def coordsV (c : Fin 2) (s : Fin 16) : grid1.Coords :=
  fun | 0 => c | 1 => s | ⟨_ + 2, h⟩ => absurd h (Nat.not_lt.2 (Nat.le_add_left _ _))

/-- The tiles, numbered. -/
def number : Fin 2 × Fin 16 ≃ Fin (2 ^ 5) := finProdFinEquiv.trans (finCongr (by norm_num))

/-- The tile's read share. -/
def share (p : Fin 2 × Fin 16) : PosShare TreeShare := leaf 5 fullShare (number p)

/-- The tile's rows of the result. -/
def tileRows (p : Fin 2 × Fin 16) : Finset S204800x128.Idx := rows (coordsV p.1 p.2)

theorem mem_tileRows (p : Fin 2 × Fin 16) (r : S204800x128.Idx) : r ∈ tileRows p ↔ (r 0).val / 6400 = 2 * p.2.val + p.1.val := by
  unfold tileRows rows
  rw [Finset.mem_filter]
  exact ⟨fun h => h.2, fun h => ⟨Finset.mem_univ _, h⟩⟩

/-- Two tiles share no row; -/
theorem tileRows_disjoint : ∀ p ∈ (Finset.univ : Finset (Fin 2 × Fin 16)), ∀ p' ∈ (Finset.univ : Finset (Fin 2 × Fin 16)), p ≠ p' →
    Disjoint (tileRows p) (tileRows p') := by
  intro p _ p' _ hne
  refine Finset.disjoint_left.mpr fun r h h' => hne ?_
  rw [mem_tileRows] at h h'
  have h1 := p.1.isLt
  have h2 := p'.1.isLt
  exact Prod.ext (Fin.ext (by omega)) (Fin.ext (by omega))

/-- and together they have them all. -/
theorem tileRows_cover : (Finset.univ : Finset (Fin 2 × Fin 16)).biUnion tileRows = Finset.univ := by
  refine Finset.eq_univ_iff_forall.mpr fun r => Finset.mem_biUnion.mpr ?_
  have hr : (r 0).val < 204800 := (r 0).isLt
  refine ⟨(⟨(r 0).val / 6400 % 2, by omega⟩, ⟨(r 0).val / 6400 / 2, by omega⟩), Finset.mem_univ _, ?_⟩
  rw [mem_tileRows]
  show (r 0).val / 6400 = 2 * ((r 0).val / 6400 / 2) + (r 0).val / 6400 % 2
  omega

/-- A separating conjunction over the tiles is one over the SparseCores of one over each one's tiles. -/
theorem over_tiles (Φ : Fin 2 × Fin 16 → sProp 𝕄) :
    bigSep Finset.univ Φ = bigSep Finset.univ fun c : Fin 2 => bigSep Finset.univ fun i : Fin 16 => Φ (c, i) := bigSep_univ_prod Φ

/-- An array held whole is every tile's read share of it. -/
theorem dealt (ℓ : Loc nD τ sig) (f : Buf (Elt F) ℓ) :
    (ℓ ↦{fullShare} f : sProp 𝕄) = bigSep Finset.univ fun p : Fin 2 × Fin 16 => ℓ ↦{share p} f := by
  rw [pointsTo_leaves Finset.univ f 5 fullShare, bigSep_univ_equiv number]
  rfl

/-- The result held whole is every tile's rows of it. -/
theorem dealt_rows (d : Dev nD) (f : Buf (Elt F) (rLoc d)) :
    (rLoc d ↦{fullShare} f : sProp 𝕄) = bigSep Finset.univ fun p : Fin 2 × Fin 16 => rLoc d ↦[tileRows p]{fullShare} f := by
  rw [← pointsTo_biUnion Finset.univ (ℓ := rLoc d) tileRows tileRows_disjoint, tileRows_cover]

/-- What tile `p` is handed, the result's rows at `f`. -/
def task (d : Dev nD) (A : Src F) (f : S204800x128.Idx → Elt F .f32) (p : Fin 2 × Fin 16) : sProp 𝕄 :=
  iprop(reads d A (share p) ∗ (rLoc d ↦[rows (coordsV p.1 p.2)]{fullShare} f))

instance task_storable (d : Dev nD) (A : Src F) (f : S204800x128.Idx → Elt F .f32) (p : Fin 2 × Fin 16) :
    BI.Storable (upEmb : UEmb _ 𝕄) (task d A f p) := by unfold task; infer_instance

/-- The five arrays and the result, held whole, are every tile's task at once. -/
theorem whole_eq (d : Dev nD) (A : Src F) (f : S204800x128.Idx → Elt F .f32) :
    (iprop(reads d A fullShare ∗ (rLoc d ↦{fullShare} f)) : sProp 𝕄)
      = bigSep Finset.univ fun c : Fin 2 => bigSep Finset.univ fun i : Fin 16 => task d A f (c, i) := by
  rw [← over_tiles (task d A f)]
  unfold task reads
  rw [bigSep_sep', bigSep_sep', bigSep_sep', bigSep_sep', bigSep_sep', dealt (tLoc d), dealt (eLoc d), dealt (oLoc d), dealt (pLoc d),
    dealt (yLoc d), dealt_rows]
  rfl

/-! ## What the handshakes carry -/

variable [FloatOps F] (A : Dev nD → Src F) (g : Dev nD → S204800x128.Idx → Elt F .f32)

/-- The call's payload: each SparseCore its sixteen tiles' tasks, each tile its own, the result's rows at anything on
    the way out and filled on the way back. -/
def P : (K (F := F)).Pay (nD := nD) (Val := Elt F) (Name := ℕ) (U := UU) where
  st := fun q d c => match q with
    | 0 => bigSep Finset.univ fun i : Fin ((K (F := F)).nSub 0) => task d (A d) (g d) (Fin.cast nCore_eq c, Fin.cast nSub_eq i)
  dn := fun q d c => match q with
    | 0 => bigSep Finset.univ fun i : Fin ((K (F := F)).nSub 0) => task d (A d) (A d).result (Fin.cast nCore_eq c, Fin.cast nSub_eq i)
  go := fun q d c i => match q with | 0 => task d (A d) (g d) (Fin.cast nCore_eq c, Fin.cast nSub_eq i)
  td := fun q d c i => match q with | 0 => task d (A d) (A d).result (Fin.cast nCore_eq c, Fin.cast nSub_eq i)
  x := fun _ _ => iprop(emp)

instance P_storable : (P A g).IsStorable where
  st q d c := match q with
    | 0 => (inferInstance : BI.Storable (upEmb : UEmb _ 𝕄) (bigSep Finset.univ fun i : Fin ((K (F := F)).nSub 0) => task d (A d) (g d) (Fin.cast nCore_eq c, Fin.cast nSub_eq i)))
  dn q d c := match q with
    | 0 => (inferInstance : BI.Storable (upEmb : UEmb _ 𝕄)
      (bigSep Finset.univ fun i : Fin ((K (F := F)).nSub 0) => task d (A d) (A d).result (Fin.cast nCore_eq c, Fin.cast nSub_eq i)))
  go q d c i := match q with | 0 => (inferInstance : BI.Storable (upEmb : UEmb _ 𝕄) (task d (A d) (g d) (Fin.cast nCore_eq c, Fin.cast nSub_eq i)))
  td q d c i := match q with | 0 => (inferInstance : BI.Storable (upEmb : UEmb _ 𝕄) (task d (A d) (A d).result (Fin.cast nCore_eq c, Fin.cast nSub_eq i)))

/-- What the call takes is the six arrays held whole; -/
theorem st0_eq (d : Dev nD) :
    (bigSep Finset.univ fun c : Fin ((K (F := F)).nCore 0) => (P A g).st 0 d c) = (iprop(reads d (A d) fullShare ∗ (rLoc d ↦{fullShare} g d)) : sProp 𝕄) :=
  (whole_eq d (A d) (g d)).symm
/-- what it gives back is the same, the result filled. -/
theorem dn0_eq (d : Dev nD) :
    (bigSep Finset.univ fun c : Fin ((K (F := F)).nCore 0) => (P A g).dn 0 d c) = (iprop(reads d (A d) fullShare ∗ (rLoc d ↦{fullShare} (A d).result)) : sProp 𝕄) :=
  (whole_eq d (A d) (A d).result).symm

/-- A SparseCore's part of the call is its tiles' tasks, both ways. -/
theorem vecSplit : (K (F := F)).VecSplit' (P A g) 0 := by
  intro d c
  show (P A g).st 0 d c ⊢ |={Set.univ}=> iprop((P A g).st 0 d c ∗ ((P A g).dn 0 d c -∗ (P A g).dn 0 d c))
  iintro H; imodintro
  isplitl [H]; · iexact H
  iintro H; iexact H

/-! ## The task's obligation -/

/-- The body the table of bodies runs on a tile. -/
theorem defs₀_vector (c : Fin τ.nSC) (s : Fin τ.nSub) :
    defs₀ (F := F) (.scVector c s) 1 ()
      = SparseCore.onTile hcore1 hsub1 (fun c s => cc1__sc_body (coordsV c s)
          tV (Memref.isWhole_whole _) eV (Memref.isWhole_whole _) oV (Memref.isWhole_whole _) pV (Memref.isWhole_whole _)
            yV (Memref.isWhole_whole _) rV (Memref.isWhole_whole _) b0 (Memref.isWhole_whole _) b1 (Memref.isWhole_whole _) b2 (Memref.isWhole_whole _)
            b3 (Memref.isWhole_whole _) b4 (Memref.isWhole_whole _) b5 (Memref.isWhole_whole _) cc1_scratch6 cc1_scoped0 cc1_scoped1 cc1_scoped2 cc1_scoped3 cc1_scoped4) ⟨⟩ c s := rfl

omit [FloatOps F] in
/-- The waits a task records are within what the call may record. -/
theorem obl_post {thr : Thread nD τ} {X Y Z : sProp 𝕄} {O : CellTallies nD τ sig (HIx 1)} {W : Waits sig (HIx 1)} {q : Fin 1} :
    iprop(X ∗ Y ∗ Z ∗ ∃ W', ⌜∀ p ∈ W', p ∈ W ∨ p.2 = none⌝ ∗ owes thr O W')
      ⊢ iprop(X ∗ Y ∗ Z ∗ ∃ W', ⌜∀ p ∈ W', p ∈ W ∨ p.2 = none ∨ p.2 = some q⌝ ∗ owes thr O W') := by
  iintro ⟨HX, HY, HZ, %W', %hW', HO⟩
  isplitl [HX]; · iexact HX
  isplitl [HY]; · iexact HY
  isplitl [HZ]; · iexact HZ
  iexists W'; isplitr
  · ipureintro; exact fun p hp => (hW' p hp).imp_right Or.inl
  · iexact HO

set_option maxRecDepth 16384 in
/-- Every tile's task meets the launch theorem's obligation. -/
theorem tileObl (hF : (K (F := F)).Facts) (hA : ∀ d, (A d).Ok) : (K (F := F)).TileObl (D (F := F)) 𝒱 (P A g) v₀ 0 := by
  intro d c i O W hO _ _
  simp only [show (P A g).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (A d) (hA d) (share (Fin.cast nCore_eq c, Fin.cast nSub_eq i)) (g d) O W hO).trans (wp_mono frame _ _ fun _ => obl_post)

end Cert.Proof.Lookup

end
-- ==== Proof.Host.lean ====
/-
  The program around its two calls: its host operations as three lines, the contents of the arrays after each line and
  each call, and the arrays the SparseCore call takes, split off what the TensorCore holds.
-/
module

public import proofs.«01_k».proof.Proof.Region
public import proofs.«01_k».proof.Proof.Deal

@[expose] public section

noncomputable section

namespace Cert.Proof.Lookup

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.ShloMosaic.StableHlo (held after seq tcRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The program's text -/

/-- The operations before the TensorCore's call: the even and the odd name rows. -/
def ops₁ : List (HloOp τ sig (Elt F)) :=
  [(StableHlo.unary main_arg2 main_v0 ((Host.slice S50x64 ![0, 0] ![2, 1] · slicesBy_S100x64_S50x64_0s2_0s1) : (⟨S100x64, .f32⟩ : BufTy).Contents (Elt F) → (⟨S50x64, .f32⟩ : BufTy).Contents (Elt F))),
    (StableHlo.unary main_arg2 main_v1 ((Host.slice S50x64 ![1, 0] ![2, 1] · slicesBy_S100x64_S50x64_1s2_0s1) : (⟨S100x64, .f32⟩ : BufTy).Contents (Elt F) → (⟨S50x64, .f32⟩ : BufTy).Contents (Elt F)))]

/-- The operations between the calls: the table flattened, and the four arrays of words the tiles read. -/
def ops₂ : List (HloOp τ sig (Elt F)) :=
  [(StableHlo.reshape main_v2 main_v3 (rfl : (.f32 : EltTy) = .f32) shapeCasts_S7x7x50x128_S2450x128),
    (StableHlo.unary main_arg0 main_v4 ((Host.slice S4096x50 ![0, 0] ![1, 2] · slicesBy_S4096x100_S4096x50_0s1_0s2) : (⟨S4096x100, .i32⟩ : BufTy).Contents (Elt F) → (⟨S4096x50, .i32⟩ : BufTy).Contents (Elt F))),
    (StableHlo.reshape main_v4 main_v5 (rfl : (.i32 : EltTy) = .i32) shapeCasts_S4096x50_S204800),
    (StableHlo.unary main_arg0 main_v6 ((Host.slice S4096x50 ![0, 1] ![1, 2] · slicesBy_S4096x100_S4096x50_0s1_1s2) : (⟨S4096x100, .i32⟩ : BufTy).Contents (Elt F) → (⟨S4096x50, .i32⟩ : BufTy).Contents (Elt F))),
    (StableHlo.reshape main_v6 main_v7 (rfl : (.i32 : EltTy) = .i32) shapeCasts_S4096x50_S204800),
    (StableHlo.nullary main_v8 (iotaInDim S50 32 0)),
    (StableHlo.reshape main_v8 main_v9 (rfl : (.i32 : EltTy) = .i32) shapeCasts_S50_S1x50),
    (StableHlo.unary main_v9 main_v10 (broadcastInDim S4096x50 ![0, 1] bcast_S1x50_S4096x50_0_1 : (⟨S1x50, .i32⟩ : BufTy).Contents (Elt F) → (⟨S4096x50, .i32⟩ : BufTy).Contents (Elt F))),
    (StableHlo.reshape main_v10 main_v11 (rfl : (.i32 : EltTy) = .i32) shapeCasts_S4096x50_S204800),
    (StableHlo.unary main_arg1 main_v12 (broadcastInDim S4096x50 ![0] bcast_S4096_S4096x50_0 : (⟨S4096, .i32⟩ : BufTy).Contents (Elt F) → (⟨S4096x50, .i32⟩ : BufTy).Contents (Elt F))),
    (StableHlo.reshape main_v12 main_v13 (rfl : (.i32 : EltTy) = .i32) shapeCasts_S4096x50_S204800)]

/-- The operation after the SparseCores' call: the rows taken apart. -/
def ops₃ : List (HloOp τ sig (Elt F)) :=
  [(StableHlo.reshape main_v14 main_v15 (rfl : (.f32 : EltTy) = .f32) shapeCasts_S204800x128_S4096x100x64)]

/-- The TensorCore's call, as the program makes it. -/
abbrev call : Prog (TpuEff nD τ sig (Elt F) (SparseCore.Sig (ΛP (F := F)) 1) .tc) PUnit :=
  SparseCore.liftProg (Q := 1) (Prog.lift (.customCall (Pipeline.entry 0) ()))

/-- The program is its three lines of host operations with the calls between them. -/
theorem main_eq (d : Dev nD) :
    main (F := F) d = (seq ops₁ >>= fun _ => call >>= fun _ => seq ops₂ >>= fun _ => (K (F := F)).run d 0 >>= fun _ => seq ops₃) := rfl

/-! ## What the arrays hold as it runs -/

variable (m : (ℓ : Loc nD τ sig) → Buf (Elt F) ℓ)

/-- At the launch; -/
def V₀ (d : Dev nD) : Valuation τ sig (Elt F) := fun b => m (d, b)
/-- after the first line; -/
def V₁ (d : Dev nD) : Valuation τ sig (Elt F) := after ops₁ (V₀ m d)
/-- the table the TensorCore's call builds; -/
def made (d : Dev nD) : Buf (Elt F) ((d : Thread nD τ).loc main_v2) := table4 (V₁ m d main_v0) (V₁ m d main_v1) (V₁ m d main_arg3)
/-- after that call; -/
def V₂ (d : Dev nD) : Valuation τ sig (Elt F) := Function.update (V₁ m d) (main_v2 : DevRef τ sig) (made m d)
/-- after the second line; -/
def V₃ (d : Dev nD) : Valuation τ sig (Elt F) := after ops₂ (V₂ m d)
/-- the arrays the tiles read, at a valuation; -/
def srcOf (W : Valuation τ sig (Elt F)) : Src F where
  tab := W main_v3
  xe := W main_v5
  xo := W main_v7
  dp := W main_v11
  ys := W main_v13
/-- what they are at the SparseCores' call; -/
abbrev src (d : Dev nD) : Src F := srcOf (V₃ m d)
/-- after that call; -/
def V₄ (d : Dev nD) : Valuation τ sig (Elt F) := Function.update (V₃ m d) (main_v14 : DevRef τ sig) (src m d).result
/-- and at the end. -/
def V₅ (d : Dev nD) : Valuation τ sig (Elt F) := after ops₃ (V₄ m d)

/-! ## What the TensorCore holds -/

/-- The buffers the TensorCore holds. -/
def ucRefs : Finset (DevRef τ sig) := (tcRefs τ sig).filter fun b => ¬ b.isScoped

omit [FloatOps F] in
/-- Its unscoped buffers at a valuation are that set held at it. -/
theorem unscopedBufs_held (c : Dev nD) (W : Valuation τ sig (Elt F)) :
    (unscopedBufs c (fun b => W b) : sProp 𝕄) = held (c : Thread nD τ) ucRefs W := by
  unfold unscopedBufs held ucRefs tcRefs
  rw [Finset.filter_map, bigSep_map]
  rfl

theorem mem_ucRefs (b : Ref sig .tc) (h : b.isScoped = false) : (b : DevRef τ sig) ∈ ucRefs :=
  Finset.mem_filter.mpr ⟨StableHlo.devRef_mem_tcRefs b, by rw [show (b : DevRef τ sig).isScoped = b.isScoped from rfl, h]; decide⟩

omit [FloatOps F] in
/-- A host operation on the TensorCore's references touches unscoped ones only. -/
theorem sub_ucRefs (op : HloOp τ sig (Elt F)) (h : op.bufs ⊆ tcRefs τ sig) : op.bufs ⊆ ucRefs := fun b hb =>
  Finset.mem_filter.mpr ⟨h hb, fun h' => Bool.false_ne_true ((op.no_scoped b hb).symm.trans h')⟩

theorem ops₁_bufs : ∀ op ∈ (ops₁ : List (HloOp τ sig (Elt F))), op.bufs ⊆ ucRefs := by
  intro op h
  refine sub_ucRefs op ?_
  unfold ops₁ at h
  simp only [List.mem_cons, List.not_mem_nil, or_false] at h
  rcases h with rfl | rfl <;> simp
theorem ops₂_bufs : ∀ op ∈ (ops₂ : List (HloOp τ sig (Elt F))), op.bufs ⊆ ucRefs := by
  intro op h
  refine sub_ucRefs op ?_
  unfold ops₂ at h
  simp only [List.mem_cons, List.not_mem_nil, or_false] at h
  rcases h with rfl | rfl | rfl | rfl | rfl | rfl | rfl | rfl | rfl | rfl | rfl <;> simp
theorem ops₃_bufs : ∀ op ∈ (ops₃ : List (HloOp τ sig (Elt F))), op.bufs ⊆ ucRefs := by
  intro op h
  refine sub_ucRefs op ?_
  unfold ops₃ at h
  simp only [List.mem_cons, List.not_mem_nil, or_false] at h
  rcases h with rfl <;> simp
theorem ops₁_fresh : ∀ op ∈ (ops₁ : List (HloOp τ sig (Elt F))), op.fresh = ∅ := by
  intro op h
  unfold ops₁ at h
  simp only [List.mem_cons, List.not_mem_nil, or_false] at h
  rcases h with rfl | rfl <;> rfl
theorem ops₂_fresh : ∀ op ∈ (ops₂ : List (HloOp τ sig (Elt F))), op.fresh = ∅ := by
  intro op h
  unfold ops₂ at h
  simp only [List.mem_cons, List.not_mem_nil, or_false] at h
  rcases h with rfl | rfl | rfl | rfl | rfl | rfl | rfl | rfl | rfl | rfl | rfl <;> rfl
theorem ops₃_fresh : ∀ op ∈ (ops₃ : List (HloOp τ sig (Elt F))), op.fresh = ∅ := by
  intro op h
  unfold ops₃ at h
  simp only [List.mem_cons, List.not_mem_nil, or_false] at h
  rcases h with rfl <;> rfl

/-- The six arrays the SparseCores' call takes. -/
def six : Finset (DevRef τ sig) := {(main_v3 : DevRef τ sig), (main_v5 : DevRef τ sig), (main_v7 : DevRef τ sig), (main_v11 : DevRef τ sig), (main_v13 : DevRef τ sig), (main_v14 : DevRef τ sig)}

theorem six_sub : six ⊆ ucRefs := by
  intro b hb
  unfold six at hb
  simp only [Finset.mem_insert, Finset.mem_singleton] at hb
  rcases hb with rfl | rfl | rfl | rfl | rfl | rfl <;> exact mem_ucRefs _ (by decide)

theorem ref_ne {a b : Ref sig .tc} (h : a ≠ b) : (a : DevRef τ sig) ≠ (b : DevRef τ sig) := StableHlo.devRef_ne_of_ne h

omit [FloatOps F] in
theorem held_six (d : Dev nD) (W : Valuation τ sig (Elt F)) :
    (held (d : Thread nD τ) six W : sProp 𝕄) = iprop((tLoc d ↦{fullShare} W main_v3) ∗ (eLoc d ↦{fullShare} W main_v5) ∗ (oLoc d ↦{fullShare} W main_v7)
      ∗ (pLoc d ↦{fullShare} W main_v11) ∗ (yLoc d ↦{fullShare} W main_v13) ∗ (rLoc d ↦{fullShare} W main_v14)) := by
  have n : ∀ {a : Ref sig .tc} {s : Finset (Ref sig .tc)}, a ∉ s → (a : DevRef τ sig) ∉ s.map ⟨Proc.devRef (sig := sig) (.tc : Proc τ), Proc.devRef_injective _⟩ := by
    intro a s h h'
    obtain ⟨b, hb, e⟩ := Finset.mem_map.mp h'
    exact h (Proc.devRef_injective _ e ▸ hb)
  rw [show six = ({main_v3, main_v5, main_v7, main_v11, main_v13, main_v14} : Finset (Ref sig .tc)).map ⟨Proc.devRef (sig := sig) (.tc : Proc τ), Proc.devRef_injective _⟩ from by
    unfold six; simp only [Finset.map_insert, Finset.map_singleton]; rfl]
  unfold held
  rw [bigSep_map, SparseCore.bigSep_insert' (by decide), SparseCore.bigSep_insert' (by decide), SparseCore.bigSep_insert' (by decide),
    SparseCore.bigSep_insert' (by decide), SparseCore.bigSep_insert' (by decide), bigSep_singleton]
  rfl

omit [FloatOps F] in
theorem regroup (a b c d e f : sProp 𝕄) : iprop(a ∗ b ∗ c ∗ d ∗ e ∗ f) = iprop((a ∗ b ∗ c ∗ d ∗ e) ∗ f) := by
  have h1 : iprop(a ∗ b ∗ c ∗ d ∗ e ∗ f) ⊢ iprop((a ∗ b ∗ c ∗ d ∗ e) ∗ f) := by
    iintro ⟨H1, H2, H3, H4, H5, H6⟩
    isplitr [H6]
    · isplitl [H1]; · iexact H1
      isplitl [H2]; · iexact H2
      isplitl [H3]; · iexact H3
      isplitl [H4]; · iexact H4
      iexact H5
    iexact H6
  have h2 : iprop((a ∗ b ∗ c ∗ d ∗ e) ∗ f) ⊢ iprop(a ∗ b ∗ c ∗ d ∗ e ∗ f) := by
    iintro ⟨⟨H1, H2, H3, H4, H5⟩, H6⟩
    isplitl [H1]; · iexact H1
    isplitl [H2]; · iexact H2
    isplitl [H3]; · iexact H3
    isplitl [H4]; · iexact H4
    isplitl [H5]; · iexact H5
    iexact H6
  exact BI.Entails.antisymm h1 h2

omit [FloatOps F] in
/-- What the TensorCore holds is the six arrays, as the call takes them, and the rest. -/
theorem held_split_six (d : Dev nD) (W : Valuation τ sig (Elt F)) :
    (held (d : Thread nD τ) ucRefs W : sProp 𝕄)
      = iprop((reads d (srcOf W) fullShare ∗ (rLoc d ↦{fullShare} W main_v14)) ∗ held (d : Thread nD τ) (ucRefs \ six) W) := by
  rw [StableHlo.held_sub_split (d : Thread nD τ) six_sub W, held_six]
  unfold reads srcOf
  refine congrArg (fun X : sProp 𝕄 => iprop(X ∗ held (d : Thread nD τ) (ucRefs \ six) W)) ?_
  exact regroup _ _ _ _ _ _

/-- The SparseCores' call changes the result alone. -/
theorem V₄_v14 (d : Dev nD) : V₄ m d main_v14 = (src m d).result := Function.update_self _ _ _
theorem V₄_ne (d : Dev nD) (b : DevRef τ sig) (h : b ≠ main_v14) : V₄ m d b = V₃ m d b := Function.update_of_ne h _ _

theorem srcOf_V₄ (d : Dev nD) : srcOf (V₄ m d) = src m d := by
  unfold srcOf src srcOf
  rw [V₄_ne m d _ (ref_ne (by decide)), V₄_ne m d _ (ref_ne (by decide)), V₄_ne m d _ (ref_ne (by decide)), V₄_ne m d _ (ref_ne (by decide)),
    V₄_ne m d _ (ref_ne (by decide))]

/-- The arrays the call leaves aside are held after it as before. -/
theorem held_aside (d : Dev nD) : (held (d : Thread nD τ) (ucRefs \ six) (V₄ m d) : sProp 𝕄) = held (d : Thread nD τ) (ucRefs \ six) (V₃ m d) :=
  StableHlo.held_congr _ fun b hb => V₄_ne m d b fun e => (Finset.mem_sdiff.mp hb).2 (e ▸ by unfold six; simp)

/-- After the call the TensorCore holds its arrays at `V₄`. -/
theorem held_after_call (d : Dev nD) :
    (held (d : Thread nD τ) ucRefs (V₄ m d) : sProp 𝕄)
      = iprop((reads d (src m d) fullShare ∗ (rLoc d ↦{fullShare} (src m d).result)) ∗ held (d : Thread nD τ) (ucRefs \ six) (V₃ m d)) := by
  rw [held_split_six, srcOf_V₄, V₄_v14, held_aside]

/-- The TensorCore's call changes the table alone. -/
theorem V₂_v2 (d : Dev nD) : V₂ m d main_v2 = made m d := Function.update_self _ _ _
theorem V₂_ne (d : Dev nD) (b : DevRef τ sig) (h : b ≠ main_v2) : V₂ m d b = V₁ m d b := Function.update_of_ne h _ _

end Cert.Proof.Lookup

end
-- ==== Proof.Launch.lean ====
/-
  The whole program's run: the launch deals the handshakes' and the pipeline's ghost state, the TensorCore runs its
  three lines and two calls from the launch memory to the contents `V₅`, and every tile meets its task's obligation.
  So every weakly fair execution ends, with the semaphores at zero and the TensorCore's arrays at `V₅`.
-/
module

public import proofs.«01_k».proof.Proof.Host

@[expose] public section

noncomputable section

namespace Cert.Proof.Lookup

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.ShloMosaic.StableHlo (held after seq tcRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The ghost state the launch deals -/

/-- The launch's ghost state: the handshakes' cells, the pipeline's cells, and no counters. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

/-- What the TensorCore of `d` takes of it for its own call. -/
def G (d : Dev nD) : sProp 𝕄 :=
  iprop(Pipeline.cellsGhost (Pipeline.pin (pcfgs (F := F)) adm) EP 0 d ∗ Pipeline.toksInit (Pipeline.pin (pcfgs (F := F)) adm) EP 0 d)

variable (A : Dev nD → Src F) (g : Dev nD → S204800x128.Idx → Elt F .f32)

theorem G_all :
    iprop((bigSep Finset.univ fun c : Dev nD => bigSep Finset.univ fun p : Fin 1 => Pipeline.cellsGhost (Pipeline.pin (pcfgs (F := F)) adm) EP p c)
        ∗ (bigSep Finset.univ fun c : Dev nD => bigSep Finset.univ fun p : Fin 1 => (Pipeline.toksInit (Pipeline.pin (pcfgs (F := F)) adm) EP p c : sProp 𝕄)))
      ⊢ bigSep Finset.univ (G (F := F)) := by
  unfold G
  rw [bigSep_sep']
  rw [show (bigSep Finset.univ fun c : Dev nD => bigSep Finset.univ fun p : Fin 1 => (Pipeline.cellsGhost (Pipeline.pin (pcfgs (F := F)) adm) EP p c : sProp 𝕄))
      = bigSep Finset.univ fun c : Dev nD => Pipeline.cellsGhost (Pipeline.pin (pcfgs (F := F)) adm) EP 0 c from
        bigSep_congr fun _ _ => bigSep_univ_of_subsingleton (0 : Fin 1),
    show (bigSep Finset.univ fun c : Dev nD => bigSep Finset.univ fun p : Fin 1 => (Pipeline.toksInit (Pipeline.pin (pcfgs (F := F)) adm) EP p c : sProp 𝕄))
      = bigSep Finset.univ fun c : Dev nD => Pipeline.toksInit (Pipeline.pin (pcfgs (F := F)) adm) EP 0 c from
        bigSep_congr fun _ _ => bigSep_univ_of_subsingleton (0 : Fin 1)]

theorem nothing_owed : (iprop(emp) : sProp 𝕄) ⊢ bigSep Finset.univ fun thr : Thread nD τ => bigSep Finset.univ fun q : Fin 1 => (P A g).x q thr := by
  rw [show (bigSep Finset.univ fun thr : Thread nD τ => bigSep Finset.univ fun q : Fin 1 => (P A g).x q thr) = bigSep Finset.univ fun _ => (iprop(emp) : sProp 𝕄) from
    bigSep_congr fun _ _ => bigSep_univ_of_subsingleton (0 : Fin 1)]
  exact Entails.of_eq (bigSep_emp_const _).symm

/-- The launch's ghost state is the handshakes' and every TensorCore's. -/
theorem hu₀ : (ownU (u₀ (F := F)) : sProp 𝕄)
    ⊢ |={Set.univ}=> iprop(BI.own (EH (initOf (K (F := F)).hsCells (K (F := F)).hsToks)) ∗ (bigSep Finset.univ (G (F := F)))
        ∗ bigSep Finset.univ fun thr : Thread nD τ => bigSep Finset.univ fun q : Fin 1 => (P A g).x q thr) := by
  unfold u₀
  iintro Hu
  ihave H := (ownU_pair (initOf (K (F := F)).hsCells (K (F := F)).hsToks) _) $$ Hu
  icases H with ⟨HH, HP⟩
  ihave H := (own_pair_emb embR _ (1 : Counters)) $$ HP
  icases H with ⟨HP, -⟩
  ihave HP := (Entails.of_eq (show (BI.own (((Emb.inl : Emb UP (UP × Counters)).trans embR) (initOf (Pipeline.cells (Pipeline.pin (pcfgs (F := F)) adm) cellOf_inj)
      (Pipeline.launchToks (Pipeline.pin (pcfgs (F := F)) adm) cellOf_inj))) : sProp 𝕄) = BI.own (EP _) from rfl)) $$ HP
  imod (Pipeline.fund_ghost (Pipeline.pin (pcfgs (F := F)) adm) EP cellOf_inj) $$ HP with HG
  imodintro
  isplitl [HH]; · iexact HH
  isplitl [HG]; · iapply G_all; iexact HG
  iapply (nothing_owed A g); iempintro

/-! ## The program's steps -/

set_option backward.isDefEq.respectTransparency.types false in
/-- The TensorCore's call: the arrays at `V₁` end at `V₂`, the thread's place among the handshakes unchanged. -/
theorem step_call [∀ e, Nonempty (Elt F e)] (d : Dev nD) (Φ : PUnit → sProp 𝕄) :
    iprop(levAts (K (F := F)).L (K (F := F)).lev ∗ (K (F := F)).tcSt EH d 0 ∗ boundary (d : Thread nD τ) ∗ held (d : Thread nD τ) ucRefs (V₁ m d) ∗ G d
        ∗ (iprop((K (F := F)).tcSt EH d 0 ∗ boundary (d : Thread nD τ) ∗ held (d : Thread nD τ) ucRefs (V₂ m d)) -∗ Φ ⟨⟩))
      ⊢ wp frame (wpE ((K (F := F)).defs (D (F := F))) 𝒱 (SparseCore.T d) none) Set.univ (call (F := F)) Φ := by
  have hreg := Pipeline.RegionSeg.wp (pcfgs (F := F)) adm (pdats fun c b => V₁ m c b) none cellOf_inj EP defs₀ 𝒱₀ (K (F := F)).L (K (F := F)).lev
    (reg (fun c b => V₁ m c b) (fun c b => V₂ m c b) (fun c => V₂_v2 m c) fun c b hb => V₂_ne m c b (ref_ne hb)) d none (fun _ h => nomatch h) (fun _ => .ret ⟨⟩) Φ
  rw [reg_pre, reg_post] at hreg
  unfold SparseCore.Cfg.tcSt G
  rw [← unscopedBufs_held, ← unscopedBufs_held]
  iintro ⟨#Hl, ⟨⟨%W, %hW, HO⟩, Hst⟩, Hb, Hh, ⟨Hcg, Hti⟩, Hk⟩
  iapply ((K (F := F)).wp_liftProg (D (F := F)) 𝒱 (SparseCore.T d) Set.univ none (Prog.lift (.customCall (Pipeline.entry 0) ())) Φ)
  iapply hreg
  isplitl [Hk Hst]
  · iintro ⟨Hb, Hh, %W', %hW', HO⟩
    rw [wp_ret]
    imodintro
    iapply Hk
    isplitl [HO Hst]
    · isplitl [HO]
      · iexists W'; isplitr
        · ipureintro
          intro p hp
          rw [hW' p hp, SparseCore.Cfg.lev_none]
          exact Nat.zero_le _
        · iexact HO
      iexact Hst
    isplitl [Hb]; · iexact Hb
    iexact Hh
  isplitl [Hb]; · iexact Hb
  isplitl [Hh HO]
  · isplitl [Hh]; · iexact Hh
    iexists W; isplitr
    · ipureintro
      intro p hp
      have h := hW p hp
      rcases p with ⟨s, _ | q⟩
      · rfl
      · exact absurd (lt_of_lt_of_le ((K (F := F)).lev_some_pos _ q) h) (Nat.lt_irrefl 0)
    · iexact HO
  isplitr; · iexact Hl
  isplitl [Hcg]; · iexact Hcg
  iexact Hti

/-- What the TensorCore hands back at the end: its arrays at `V₅`. -/
abbrev FIN (d : Dev nD) : sProp 𝕄 := held (d : Thread nD τ) ucRefs (V₅ m d)

/-- What the call's result holds before it. -/
abbrev before (d : Dev nD) : S204800x128.Idx → Elt F .f32 := V₃ m d main_v14

set_option backward.isDefEq.respectTransparency.types false in
/-- The program on device `d`'s TensorCore. -/
theorem hmain [∀ e, Nonempty (Elt F e)] (κ : GSem nD τ sig → ℕ) (d : Dev nD) :
    iprop((K (F := F)).ctx EH (P (src m) (before m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq]
  iintro ⟨#Hctx, Hst, ⟨Hb, Hh, Hts, -⟩, HG⟩
  ihave Hh := (Entails.of_eq ((show (unscopedBufs d (fun b => m ((SparseCore.T d : Thread nD τ).loc b)) : sProp 𝕄) = unscopedBufs d (fun b => V₀ m d b) from rfl).trans
    (unscopedBufs_held d (V₀ m d)))) $$ Hh
  iapply (StableHlo.wp_seq 𝒱 none Set.univ d ucRefs _ ops₁ ops₁_bufs ops₁_fresh (V₀ m d)) $$ [Hb Hh]
  · isplitl [Hb]; · iexact Hb
    iexact Hh
  iintro ⟨Hb, Hh⟩
  rw [wp_bind]
  iapply (step_call m d _)
  isplitr; · iapply ((K (F := F)).ctx_levAts κ); iexact Hctx
  isplitl [Hst]; · iexact Hst
  isplitl [Hb]; · iexact Hb
  isplitl [Hh]; · iexact Hh
  isplitl [HG]; · iexact HG
  iintro ⟨Hst, Hb, Hh⟩
  iapply (StableHlo.wp_seq 𝒱 none Set.univ d ucRefs _ ops₂ ops₂_bufs ops₂_fresh (V₂ m d)) $$ [Hb Hh]
  · isplitl [Hb]; · iexact Hb
    iexact Hh
  iintro ⟨Hb, Hh⟩
  ihave Hh := (Entails.of_eq ((show (held (d : Thread nD τ) ucRefs (after ops₂ (V₂ m d)) : sProp 𝕄) = held (d : Thread nD τ) ucRefs (V₃ m d) from rfl).trans
    (held_split_six d (V₃ m d)))) $$ Hh
  icases Hh with ⟨H6, Hr⟩
  rw [wp_bind]
  iapply ((K (F := F)).wp_run (D (F := F)) 𝒱 (EH := EH) (P := P (src m) (before m)) κ d 0)
  isplitr; · iexact Hctx
  isplitl [Hst]; · iexact Hst
  isplitl [H6]
  · rw [st0_eq]; iexact H6
  iintro ⟨Hst, Hdn⟩
  ihave H6 := (Entails.of_eq (dn0_eq (src m) (before m) d)) $$ Hdn
  ihave Hh := (Entails.of_eq (held_after_call m d).symm) $$ [H6 Hr]
  · isplitl [H6]; · iexact H6
    iexact Hr
  rw [show (seq ops₃ : Prog (TpuEff nD τ sig (Elt F) (SparseCore.Sig (ΛP (F := F)) 1) .tc) PUnit) = (seq ops₃ >>= fun _ => pure ⟨⟩) from (bind_pure _).symm]
  iapply (StableHlo.wp_seq 𝒱 none Set.univ d ucRefs _ ops₃ ops₃_bufs ops₃_fresh (V₄ m d)) $$ [Hb Hh]
  · isplitl [Hb]; · iexact Hb
    iexact Hh
  iintro ⟨Hb, Hh⟩
  rw [wp_pure]
  imodintro
  isplitl [Hst]; · iexact Hst
  isplitl [Hh]; · iexact Hh
  isplitl [Hb]; · iexact Hb
  iexact Hts

/-! ## The run -/

/-- The machine's memory agrees with `V₅` on the TensorCore's arrays. -/
def fq (d : Dev nD) (s' : Phys nD τ sig (Elt F)) : Prop := ∀ b ∈ ucRefs, s'.mem.mem (d, b) = V₅ m d b

theorem hfin (d : Dev nD) (s' : Phys nD τ sig (Elt F)) : iprop(FIN m d ∗ SI s') ⊢ (⌜fq m d s'⌝ : sProp 𝕄) := by
  have h := SI_pointsTo_bufs_agree (st := s') (c := d) (qs := fun _ => fullShare) (F := V₅ m d) (Ix := HIx 1) (Name := ℕ) (U := UU) (Lvl := ℕ) ucRefs
  unfold FIN held
  iintro ⟨H, HSI⟩
  iapply h
  isplitl [HSI]; · iexact HSI
  iexact H

/-- The program runs to the contents `V₅` of the TensorCore's arrays and every semaphore at zero, provided every word
    the tiles compute names a row of the table. -/
theorem run_main [∀ e, Nonempty (Elt F e)] (hA : ∀ d, (src m d).Ok) :
    θ_run (Cert.KernelIdeal.defs (F := F)) (Cert.KernelIdeal.threads (F := F)) ⟨m, fun _ => 0, ρ⟩
      (fun r => (∀ d : Dev nD, ∀ b ∈ ucRefs, r.2.mem (d, b) = V₅ m d b) ∧ r.2.sem = fun _ => 0) :=
  SparseCore.Cfg.θ_run_sc_quiescent (K := K (F := F)) (D := D (F := F)) (𝒱 := 𝒱) (EH := EH) (P := P (src m) (before m)) (A := ∅) facts v₀
    (fun q hq => match q with | 0 => nomatch hq)
    (fun q _ => match q with | 0 => tileObl (src m) (before m) facts hA)
    (fun q _ => match q with | 0 => SparseCore.Cfg.VecSplit.of_plain (vecSplit (src m) (before m)))
    m ρ main (G (F := F)) (FIN m) (u₀ (F := F)) (sep_elim_left.trans (hu₀ (src m) (before m))) (hmain m ρ) (fq m) (hfin m) _ (fun _ h hz => ⟨h, hz⟩)

end Cert.Proof.Lookup

end
-- ==== Proof.Values.lean ====
/-
  What the host lines leave in the arrays, entry by entry, and the arguments kept: the names' even and odd rows,
  the flattened table, the words the tiles read at each place, and the result taken apart from the tiles' rows.
  Under the precondition's bounds every word the tiles compute names a row of the table.
-/
module

public import proofs.«01_k».proof.Proof.Launch

@[expose] public section

noncomputable section

namespace Cert.Proof.Lookup

open Cert.KernelIdeal Cert.KernelIdeal.Gen
open Idealize.ShloMosaic Idealize.ShloMosaic.TcCoe
open Idealize.ShloMosaic.StableHlo (after)

variable {F : FTy → Type} [FloatOps F]

/-! ## The lines at any valuation -/

variable (W : Valuation τ sig (Elt F))

theorem ops₁_v0 : after ops₁ W main_v0 = Host.slice S50x64 ![0, 0] ![2, 1] (W main_arg2) slicesBy_S100x64_S50x64_0s2_0s1 := by
  unfold ops₁; after_results <;> rfl
theorem ops₁_v1 : after ops₁ W main_v1 = Host.slice S50x64 ![1, 0] ![2, 1] (W main_arg2) slicesBy_S100x64_S50x64_1s2_0s1 := by
  unfold ops₁; after_results <;> rfl
theorem ops₁_arg0 : after ops₁ W main_arg0 = W main_arg0 := by unfold ops₁; after_results <;> rfl
theorem ops₁_arg1 : after ops₁ W main_arg1 = W main_arg1 := by unfold ops₁; after_results <;> rfl
theorem ops₁_arg2 : after ops₁ W main_arg2 = W main_arg2 := by unfold ops₁; after_results <;> rfl
theorem ops₁_arg3 : after ops₁ W main_arg3 = W main_arg3 := by unfold ops₁; after_results <;> rfl
theorem ops₂_v3 : after ops₂ W main_v3 = shapeCast S2450x128 (W main_v2) shapeCasts_S7x7x50x128_S2450x128 := by
  unfold ops₂; after_results <;> rfl
theorem ops₂_v5 : after ops₂ W main_v5
    = shapeCast S204800 (Host.slice S4096x50 ![0, 0] ![1, 2] (W main_arg0) slicesBy_S4096x100_S4096x50_0s1_0s2) shapeCasts_S4096x50_S204800 := by
  unfold ops₂; after_results <;> rfl
theorem ops₂_v7 : after ops₂ W main_v7
    = shapeCast S204800 (Host.slice S4096x50 ![0, 1] ![1, 2] (W main_arg0) slicesBy_S4096x100_S4096x50_0s1_1s2) shapeCasts_S4096x50_S204800 := by
  unfold ops₂; after_results <;> rfl
theorem ops₂_v11 : after ops₂ W main_v11
    = shapeCast S204800 (broadcastInDim S4096x50 ![0, 1] bcast_S1x50_S4096x50_0_1 (shapeCast S1x50 (iotaInDim S50 32 0) shapeCasts_S50_S1x50)) shapeCasts_S4096x50_S204800 := by
  unfold ops₂; after_results <;> rfl
theorem ops₂_v13 : after ops₂ W main_v13
    = shapeCast S204800 (broadcastInDim S4096x50 ![0] bcast_S4096_S4096x50_0 (W main_arg1)) shapeCasts_S4096x50_S204800 := by
  unfold ops₂; after_results <;> rfl
theorem ops₂_arg0 : after ops₂ W main_arg0 = W main_arg0 := by unfold ops₂; after_results <;> rfl
theorem ops₂_arg1 : after ops₂ W main_arg1 = W main_arg1 := by unfold ops₂; after_results <;> rfl
theorem ops₂_arg2 : after ops₂ W main_arg2 = W main_arg2 := by unfold ops₂; after_results <;> rfl
theorem ops₂_arg3 : after ops₂ W main_arg3 = W main_arg3 := by unfold ops₂; after_results <;> rfl
theorem ops₃_v15 : after ops₃ W main_v15 = shapeCast S4096x100x64 (W main_v14) shapeCasts_S204800x128_S4096x100x64 := by
  unfold ops₃; after_results <;> rfl
theorem ops₃_arg0 : after ops₃ W main_arg0 = W main_arg0 := by unfold ops₃; after_results <;> rfl
theorem ops₃_arg1 : after ops₃ W main_arg1 = W main_arg1 := by unfold ops₃; after_results <;> rfl
theorem ops₃_arg2 : after ops₃ W main_arg2 = W main_arg2 := by unfold ops₃; after_results <;> rfl
theorem ops₃_arg3 : after ops₃ W main_arg3 = W main_arg3 := by unfold ops₃; after_results <;> rfl

/-! ## The arguments kept -/

variable (m : (ℓ : Loc nD τ sig) → Buf (Elt F) ℓ) (d : Dev nD)

theorem V₁_arg0 : V₁ m d main_arg0 = m (d, main_arg0) := ops₁_arg0 _
theorem V₁_arg1 : V₁ m d main_arg1 = m (d, main_arg1) := ops₁_arg1 _
theorem V₁_arg2 : V₁ m d main_arg2 = m (d, main_arg2) := ops₁_arg2 _
theorem V₁_arg3 : V₁ m d main_arg3 = m (d, main_arg3) := ops₁_arg3 _
theorem V₂_arg0 : V₂ m d main_arg0 = m (d, main_arg0) := (V₂_ne m d _ (ref_ne (by decide))).trans (V₁_arg0 m d)
theorem V₂_arg1 : V₂ m d main_arg1 = m (d, main_arg1) := (V₂_ne m d _ (ref_ne (by decide))).trans (V₁_arg1 m d)
theorem V₂_arg2 : V₂ m d main_arg2 = m (d, main_arg2) := (V₂_ne m d _ (ref_ne (by decide))).trans (V₁_arg2 m d)
theorem V₂_arg3 : V₂ m d main_arg3 = m (d, main_arg3) := (V₂_ne m d _ (ref_ne (by decide))).trans (V₁_arg3 m d)
theorem V₅_arg0 : V₅ m d main_arg0 = m (d, main_arg0) :=
  (ops₃_arg0 _).trans ((V₄_ne m d _ (ref_ne (by decide))).trans ((ops₂_arg0 _).trans (V₂_arg0 m d)))
theorem V₅_arg1 : V₅ m d main_arg1 = m (d, main_arg1) :=
  (ops₃_arg1 _).trans ((V₄_ne m d _ (ref_ne (by decide))).trans ((ops₂_arg1 _).trans (V₂_arg1 m d)))
theorem V₅_arg2 : V₅ m d main_arg2 = m (d, main_arg2) :=
  (ops₃_arg2 _).trans ((V₄_ne m d _ (ref_ne (by decide))).trans ((ops₂_arg2 _).trans (V₂_arg2 m d)))
theorem V₅_arg3 : V₅ m d main_arg3 = m (d, main_arg3) :=
  (ops₃_arg3 _).trans ((V₄_ne m d _ (ref_ne (by decide))).trans ((ops₂_arg3 _).trans (V₂_arg3 m d)))

/-! ## The four arguments, named -/

/-- The entries to look up, -/
abbrev xs : S4096x100.Idx → BitVec 32 := m (d, main_arg0)
/-- the masked positions, -/
abbrev ms : S4096.Idx → BitVec 32 := m (d, main_arg1)
/-- the names -/
abbrev names : S100x64.Idx → Elt F .f32 := m (d, main_arg2)
/-- and the values. -/
abbrev vals : S6x64.Idx → Elt F .f32 := m (d, main_arg3)

/-! ## The words at place `b·50 + j` -/

variable (p : S204800.Idx)

theorem p_lt : (p 0).val < 204800 := (p 0).isLt
theorem row_lt : (p 0).val / 50 < 4096 := by have := p_lt p; omega
theorem col_lt : (p 0).val % 50 < 50 := Nat.mod_lt _ (by decide)

/-- The batch row and the pair a place names. -/
def pair : S4096x50.Idx := fun | 0 => ⟨(p 0).val / 50, row_lt p⟩ | 1 => ⟨(p 0).val % 50, col_lt p⟩

/-- The place's row-major position is the pair's. -/
theorem pair_pos : (S4096x50.rowMajor (pair p)).val = (S204800.rowMajor p).val := by
  rw [Shape.rowMajor_val_two, Shape.rowMajor_val_one]
  show (p 0).val / 50 * 50 + (p 0).val % 50 = (p 0).val
  omega

/-- The even entry of a place is `x` at its batch row and twice its pair number. -/
theorem xe_at : (src m d).xe p = xs m d (fun | 0 => ⟨(p 0).val / 50, row_lt p⟩ | 1 => ⟨2 * ((p 0).val % 50), by have := col_lt p; show _ < 100; omega⟩) := by
  show after ops₂ (V₂ m d) main_v5 p = _
  rw [ops₂_v5, shapeCast_apply _ _ p (pair p) (pair_pos p), V₂_arg0]
  show m (d, main_arg0) _ = m (d, main_arg0) _
  congr 1
  funext a
  apply Fin.ext
  match a with
  | 0 => show 0 + 1 * _ = _; rw [Nat.zero_add, Nat.one_mul]; rfl
  | 1 => show 0 + 2 * _ = _; rw [Nat.zero_add]; rfl

/-- The odd entry is `x` one position on. -/
theorem xo_at : (src m d).xo p = xs m d (fun | 0 => ⟨(p 0).val / 50, row_lt p⟩ | 1 => ⟨2 * ((p 0).val % 50) + 1, by have := col_lt p; show _ < 100; omega⟩) := by
  show after ops₂ (V₂ m d) main_v7 p = _
  rw [ops₂_v7, shapeCast_apply _ _ p (pair p) (pair_pos p), V₂_arg0]
  show m (d, main_arg0) _ = m (d, main_arg0) _
  congr 1
  funext a
  apply Fin.ext
  match a with
  | 0 => show 0 + 1 * _ = _; rw [Nat.zero_add, Nat.one_mul]; rfl
  | 1 => show 1 + 2 * _ = _; rw [Nat.add_comm]; rfl

/-- The pair number. -/
theorem dp_at : (src m d).dp p = BitVec.ofNat 32 ((p 0).val % 50) := by
  show after ops₂ (V₂ m d) main_v11 p = _
  rw [ops₂_v11, shapeCast_apply _ _ p (pair p) (pair_pos p)]
  rw [broadcastInDim_apply _ _ _ (pair p) ((fun | 0 => ⟨0, by decide⟩ | 1 => ⟨(p 0).val % 50, col_lt p⟩) : S1x50.Idx) (by
    intro a
    match a with
    | 0 => rfl
    | 1 => rfl)]
  rw [shapeCast_apply _ _ _ ((fun | 0 => ⟨(p 0).val % 50, col_lt p⟩) : S50.Idx) (by
    rw [Shape.rowMajor_val_two, Shape.rowMajor_val_one]
    show (p 0).val % 50 = 0 * 50 + (p 0).val % 50
    omega)]
  rfl

/-- The masked position of the place's batch row. -/
theorem ys_at : (src m d).ys p = ms m d (fun | 0 => ⟨(p 0).val / 50, row_lt p⟩) := by
  show after ops₂ (V₂ m d) main_v13 p = _
  rw [ops₂_v13, shapeCast_apply _ _ p (pair p) (pair_pos p), V₂_arg1]
  exact broadcastInDim_apply _ _ _ (pair p) _ (by
    intro a
    match a with
    | 0 => rfl)

/-- With the entries of `x` below six, every word names a row of the table. -/
theorem src_ok (hx : ∀ i, (xs m d i).toNat < 6) : (src m d).Ok := by
  intro q
  refine word_lt _ _ _ _ ?_ ?_ ?_
  · rw [xe_at]; exact hx _
  · rw [xo_at]; exact hx _
  · rw [dp_at, BitVec.toNat_ofNat]
    have := col_lt q
    omega

end Cert.Proof.Lookup

end
-- ==== Proof.Range.lean ====
/-
  What the precondition says, entry by entry: every entry of `x` is below six and every entry of `y` is below a
  hundred, both read as naturals.
-/
module

public import proofs.«01_k».proof.Defs
public import proofs.«01_k».proof.Proof.Gen.Pre_in_range
public import Idealize.ShloMosaic.Lib.ReduceAll
public import Idealize.ShloMosaic.Lib.Pipeline.Value

@[expose] public section

noncomputable section

namespace Cert.Proof.Range

open Idealize.ShloMosaic
open Cert.Pre_in_range

variable {F : FTy → Type} [FloatOps F]

/-- The conjunction of two one-bit words is one exactly when both are. -/
theorem and_one : ∀ a b : BitVec 1, IntOp.andi a b = 1#1 → a = 1#1 ∧ b = 1#1 := by decide

/-- A word at least zero and below `n`, both read signed, is below `n` read as a natural, for a small `n`. -/
theorem lt_of_bounds (v : BitVec 32) (n : Nat) (hn : n < 2 ^ 31)
    (e : IntOp.andi (IntOp.cmpi .sge v 0#32) (IntOp.cmpi .slt v (BitVec.ofNat 32 n)) = 1#1) : v.toNat < n := by
  obtain ⟨h0, h1⟩ := and_one _ _ e
  have g0 := IntOp.cmpi_sge.1 h0
  have g1 := IntOp.cmpi_slt.1 h1
  rw [BitVec.toInt_eq_toNat_cond] at g0 g1
  rw [BitVec.toInt_eq_toNat_cond] at g0 g1
  simp only [BitVec.toNat_ofNat] at g0 g1
  rw [Nat.mod_eq_of_lt (by omega)] at g1
  omega

instance : Subsingleton S_.Idx := ⟨fun a b => funext fun i => i.elim0⟩

/-- The precondition's function at all ones bounds both index arrays. -/
theorem bounds (x : Vec F S4096x100 .i32) (y : Vec F S4096 .i32) (n : Vec F S100x64 .f32) (v : Vec F S6x64 .f32)
    (h : Cert.Pre_in_range.fn (F := F) x y n v = fun _ => 1#1) : (∀ i, (x i).toNat < 6) ∧ ∀ i, (y i).toNat < 100 := by
  have e := congrFun h (fun i => i.elim0)
  obtain ⟨ex, ey⟩ := and_one _ _ e
  constructor
  · intro i
    exact lt_of_bounds (x i) 6 (by decide) (Host.reduce_andi_all _ _ _ _ _ ex i)
  · intro i
    exact lt_of_bounds (y i) 100 (by decide) (Host.reduce_andi_all _ _ _ _ _ ey i)

end Cert.Proof.Range

end
-- ==== Proof.Frames.lean ====
/-
  The frames: the kernel over either float values, and the reference, end with their arguments unchanged and every
  semaphore counter back at zero.
-/
module

public import proofs.«01_k».proof.Defs
public import proofs.«01_k».proof.Proof.Gen.Kernel
public import proofs.«01_k».proof.Proof.Gen.ReferenceIdeal.Run
public import proofs.«01_k».proof.Proof.Values
public import proofs.«01_k».proof.Proof.Range

@[expose] public section

noncomputable section

namespace Cert.Proof.Lookup

open Cert.KernelIdeal Cert.KernelIdeal.Gen
open Idealize.ShloMosaic Idealize.ShloMosaic.TcCoe

variable {F : FTy → Type} [FloatOps F] [∀ e, Nonempty (Elt F e)]

/-- The kernel's run where every entry of `x` is below six: the result is the final valuation's, the arguments are
    unchanged, and every counter is zero. -/
theorem run_values (m : (ℓ : Loc nD τ sig) → Buf (Elt F) ℓ) (ρ : Dev nD → PrngReg) (hx : ∀ d i, (xs m d i).toNat < 6) :
    θ_run (Cert.KernelIdeal.defs (F := F)) (Cert.KernelIdeal.threads (F := F)) ⟨m, fun _ => 0, ρ⟩ (fun r => (∀ d : Dev nD,
      r.2.mem ((d.tc : Thread nD τ).loc main_v15) = V₅ m d main_v15
      ∧ r.2.mem ((d.tc : Thread nD τ).loc main_arg0) = m ((d.tc : Thread nD τ).loc main_arg0)
      ∧ r.2.mem ((d.tc : Thread nD τ).loc main_arg1) = m ((d.tc : Thread nD τ).loc main_arg1)
      ∧ r.2.mem ((d.tc : Thread nD τ).loc main_arg2) = m ((d.tc : Thread nD τ).loc main_arg2)
      ∧ r.2.mem ((d.tc : Thread nD τ).loc main_arg3) = m ((d.tc : Thread nD τ).loc main_arg3)) ∧ r.2.sem = fun _ => 0) :=
  (θ_run Cert.KernelIdeal.defs _ _).mono (fun _ h => ⟨fun d =>
    ⟨h.1 d _ (mem_ucRefs main_v15 (by decide)),
      (h.1 d _ (mem_ucRefs main_arg0 (by decide))).trans (V₅_arg0 m d),
      (h.1 d _ (mem_ucRefs main_arg1 (by decide))).trans (V₅_arg1 m d),
      (h.1 d _ (mem_ucRefs main_arg2 (by decide))).trans (V₅_arg2 m d),
      (h.1 d _ (mem_ucRefs main_arg3 (by decide))).trans (V₅_arg3 m d)⟩, h.2⟩)
    (run_main m ρ fun d => src_ok m d (hx d))

end Cert.Proof.Lookup

namespace Cert.Proof

open Idealize.ShloMosaic

/-- The kernel over the exact values keeps its arguments and ends quiescent. -/
theorem frame_ideal : Cert.quiescent_KernelIdeal := fun m ρ hpre =>
  (θ_run Cert.KernelIdeal.defs _ _).mono (fun _ h => ⟨fun c => (h.1 c).2, h.2⟩)
    (Lookup.run_values (F := Ideal) m ρ fun d => (Range.bounds _ _ _ _ (hpre d)).1)

section
variable {F : FTy → Type} [FloatOps F]

open Cert.Kernel.Gen Cert.KernelIdeal.Gen

/-- The two printings of the kernel call the same bodies, -/
theorem same_defs₀ : Cert.Kernel.defs₀ (F := F) = Cert.KernelIdeal.defs₀ (F := F) := by
  funext p ℓ a
  cases p with
  | tc =>
    match ℓ with
    | 0 => rfl
    | 1 => rfl
  | scScalar c =>
    match ℓ with
    | 0 => rfl
    | 1 => rfl
  | scVector c s =>
    match ℓ with
    | 0 => rfl
    | 1 => rfl

/-- and so the same definitions. -/
theorem same_defs : Cert.Kernel.defs (F := F) = Cert.KernelIdeal.defs (F := F) := by
  unfold Cert.Kernel.defs Cert.KernelIdeal.defs
  rw [same_defs₀]
  rfl

end

/-- The kernel over the machine's floats keeps its arguments and ends quiescent. -/
theorem frame_kernel : Cert.quiescent_Kernel := by
  intro m ρ hpre
  rw [same_defs]
  exact (θ_run Cert.KernelIdeal.defs _ _).mono (fun _ h => ⟨fun c => (h.1 c).2, h.2⟩)
    (Lookup.run_values (F := Bits) m ρ fun d => (Range.bounds _ _ _ _ (hpre d)).1)

/-- The reference keeps its arguments; it has no semaphores. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Result.lean ====
/-
  The kernel's result, entry by entry: at `(b, i, k)` it is the name at `(i, k)`, plus the value at `(x[b, i], k)` where
  `i` is not row `b`'s masked position.
-/
module

public import proofs.«01_k».proof.Proof.Values
public import Idealize.ShloMosaic.Lib.WordCmp

@[expose] public section

noncomputable section

namespace Cert.Proof.Lookup

open Cert.KernelIdeal Cert.KernelIdeal.Gen
open Idealize.ShloMosaic Idealize.ShloMosaic.TcCoe
open Idealize.ShloMosaic.StableHlo (after)

variable {F : FTy → Type} [FloatOps F]

/-- The name at `(i, k)`, plus the value at `(e, k)` where `e` is one of the values' rows. -/
def item (n : S100x64.Idx → Elt F .f32) (v : S6x64.Idx → Elt F .f32) (e i k : Nat) (hi : i < 100) (hk : k < 64) : Elt F .f32 :=
  if h : e < 6 then FloatOps.addf (n (fun | 0 => ⟨i, hi⟩ | 1 => ⟨k, hk⟩)) (v (fun | 0 => ⟨e, h⟩ | 1 => ⟨k, hk⟩))
  else n (fun | 0 => ⟨i, hi⟩ | 1 => ⟨k, hk⟩)

theorem item_lt (n : S100x64.Idx → Elt F .f32) (v : S6x64.Idx → Elt F .f32) (e i k : Nat) (hi : i < 100) (hk : k < 64) (h : e < 6) :
    item n v e i k hi hk = FloatOps.addf (n (fun | 0 => ⟨i, hi⟩ | 1 => ⟨k, hk⟩)) (v (fun | 0 => ⟨e, h⟩ | 1 => ⟨k, hk⟩)) := by
  unfold item
  exact dif_pos h

theorem item_ge (n : S100x64.Idx → Elt F .f32) (v : S6x64.Idx → Elt F .f32) (e i k : Nat) (hi : i < 100) (hk : k < 64) (h : ¬ e < 6) :
    item n v e i k hi hk = n (fun | 0 => ⟨i, hi⟩ | 1 => ⟨k, hk⟩) := by
  unfold item
  exact dif_neg h

/-- Row `b`'s code at position `i`: six where the position is masked, else the entry of `x` there. -/
def code (x : S4096x100.Idx → BitVec 32) (y : S4096.Idx → BitVec 32) (b i : Nat) (hb : b < 4096) (hi : i < 100) : Nat :=
  if i = (y (fun | 0 => ⟨b, hb⟩)).toNat then 6 else (x (fun | 0 => ⟨b, hb⟩ | 1 => ⟨i, hi⟩)).toNat

/-- A code is at most six. -/
theorem code_le (x : S4096x100.Idx → BitVec 32) (y : S4096.Idx → BitVec 32) (b i : Nat) (hb : b < 4096) (hi : i < 100)
    (hx : ∀ i, (x i).toNat < 6) : code x y b i hb hi ≤ 6 := by
  unfold code
  split
  · exact Nat.le_refl _
  · exact Nat.le_of_lt (hx _)

variable (m : (ℓ : Loc nD τ sig) → Buf (Elt F) ℓ) (d : Dev nD)

/-- The even half of a table row is an entry at an even position, -/
theorem half_even (v : S6x64.Idx → Elt F .f32) (e j c : Nat) (hj : j < 50) (hc : c < 64) :
    half (V₁ m d main_v0) v e j c hj hc = item (names m d) v e (2 * j) c (by omega) hc := by
  have hn : V₁ m d main_v0 (fun | 0 => ⟨j, hj⟩ | 1 => ⟨c, hc⟩) = names m d (fun | 0 => ⟨2 * j, by show _ < 100; omega⟩ | 1 => ⟨c, hc⟩) := by
    show after ops₁ (V₀ m d) main_v0 _ = _
    rw [ops₁_v0]
    show m (d, main_arg2) _ = m (d, main_arg2) _
    congr 1
    funext a
    apply Fin.ext
    match a with
    | 0 => show 0 + 2 * j = 2 * j; omega
    | 1 => show 0 + 1 * c = c; omega
  by_cases h : e < 6
  · exact (dif_pos h).trans ((congrArg (fun z => FloatOps.addf z _) hn).trans (item_lt _ _ _ _ _ _ _ h).symm)
  · exact (dif_neg h).trans (hn.trans (item_ge _ _ _ _ _ _ _ h).symm)

/-- and the odd half at an odd one. -/
theorem half_odd (v : S6x64.Idx → Elt F .f32) (e j c : Nat) (hj : j < 50) (hc : c < 64) :
    half (V₁ m d main_v1) v e j c hj hc = item (names m d) v e (2 * j + 1) c (by omega) hc := by
  have hn : V₁ m d main_v1 (fun | 0 => ⟨j, hj⟩ | 1 => ⟨c, hc⟩) = names m d (fun | 0 => ⟨2 * j + 1, by show _ < 100; omega⟩ | 1 => ⟨c, hc⟩) := by
    show after ops₁ (V₀ m d) main_v1 _ = _
    rw [ops₁_v1]
    show m (d, main_arg2) _ = m (d, main_arg2) _
    congr 1
    funext a
    apply Fin.ext
    match a with
    | 0 => show 1 + 2 * j = 2 * j + 1; omega
    | 1 => show 0 + 1 * c = c; omega
  by_cases h : e < 6
  · exact (dif_pos h).trans ((congrArg (fun z => FloatOps.addf z _) hn).trans (item_lt _ _ _ _ _ _ _ h).symm)
  · exact (dif_neg h).trans (hn.trans (item_ge _ _ _ _ _ _ _ h).symm)

/-- The table's row `(e0·7 + e1)·50 + j`, lane `c`. -/
theorem tab_at (r : S2450x128.Idx) (e0 e1 j c : Nat) (h0 : e0 < 7) (h1 : e1 < 7) (hj : j < 50) (hc : c < 128)
    (hr : (r 0).val = (e0 * 7 + e1) * 50 + j) (hl : (r 1).val = c) :
    (src m d).tab r = if h : c < 64 then item (names m d) (vals m d) e0 (2 * j) c (by omega) h
      else item (names m d) (vals m d) e1 (2 * j + 1) (c - 64) (by omega) (by omega) := by
  show after ops₂ (V₂ m d) main_v3 r = _
  rw [ops₂_v3, V₂_v2, shapeCast_apply _ _ r ((fun | 0 => ⟨e0, h0⟩ | 1 => ⟨e1, h1⟩ | 2 => ⟨j, hj⟩ | 3 => ⟨c, hc⟩) : S7x7x50x128.Idx) (by
    rw [Shape.rowMajor_val_two, Shape.rowMajor_val_four]
    show ((e0 * 7 + e1) * 50 + j) * 128 + c = (r 0).val * 128 + (r 1).val
    rw [hr, hl])]
  unfold made
  rw [table4_of _ _ _ _ (e0 := e0) (e1 := e1) (p := j) (c := c) rfl rfl rfl rfl hj hc, V₁_arg3]
  split
  · exact half_even m d _ _ _ _ _ _
  · exact half_odd m d _ _ _ _ _ _

/-- The tiles' choice between six and an entry, by whether a position is the masked one. -/
theorem chosen (a y x : BitVec 32) : (Scalar.select (IntOp.cmpi .eq a y) 6#32 x).toNat = if a.toNat = y.toNat then 6 else x.toNat := by
  rw [WordCmp.cmpi_eq_eq_toNat, WordCmp.select_decide]
  split <;> rfl

/-- The word at place `b·50 + j`. -/
theorem word_at (p : S204800.Idx) (b j : Nat) (hb : b < 4096) (hj : j < 50) (hp : (p 0).val = b * 50 + j)
    (hx : ∀ i, (xs m d i).toNat < 6) :
    ((src m d).at p).toNat = (code (xs m d) (ms m d) b (2 * j) hb (by omega) * 7 + code (xs m d) (ms m d) b (2 * j + 1) hb (by omega)) * 50 + j := by
  have e1 : (p 0).val / 50 = b := by omega
  have e2 : (p 0).val % 50 = j := by omega
  have ee := xe_at m d p
  have eo := xo_at m d p
  have ed := dp_at m d p
  have ey := ys_at m d p
  simp only [e1, e2] at ee eo ed ey
  have hd : (BitVec.ofNat 32 j).toNat = j := by rw [BitVec.toNat_ofNat]; omega
  show (word _ _ _ _).toNat = _
  rw [ee, eo, ed, ey, toNat_word _ _ _ _ (hx _) (hx _) (by rw [hd]; exact hj), chosen, chosen, hd]
  have h2 : (IntOp.muli (BitVec.ofNat 32 j) 2#32).toNat = 2 * j := by
    simp only [IntOp.muli, BitVec.toNat_mul, BitVec.toNat_ofNat]
    omega
  have h3 : (IntOp.addi (IntOp.muli (BitVec.ofNat 32 j) 2#32) 1#32).toNat = 2 * j + 1 := by
    simp only [IntOp.addi, BitVec.toNat_add, h2, BitVec.toNat_ofNat]
    omega
  rw [h2, h3]
  rfl

/-- Lane `c` of the tiles' row `b·50 + j`. -/
theorem row_at (r : S204800x128.Idx) (b j c : Nat) (hb : b < 4096) (hj : j < 50) (hc : c < 128)
    (hr : (r 0).val = b * 50 + j) (hl : (r 1).val = c) (hx : ∀ i, (xs m d i).toNat < 6) :
    (src m d).result r
      = if h : c < 64 then item (names m d) (vals m d) (code (xs m d) (ms m d) b (2 * j) hb (by omega)) (2 * j) c (by omega) h
        else item (names m d) (vals m d) (code (xs m d) (ms m d) b (2 * j + 1) hb (by omega)) (2 * j + 1) (c - 64) (by omega) (by omega) := by
  have hw := word_at m d (place r) b j hb hj hr hx
  have l0 := code_le (xs m d) (ms m d) b (2 * j) hb (by omega) hx
  have l1 := code_le (xs m d) (ms m d) b (2 * j + 1) hb (by omega) hx
  refine tab_at m d (source (src m d) r) _ _ j c (by omega) (by omega) hj hc ?_ hl
  show ((src m d).at (place r)).toNat % 2450 = _
  rw [hw]
  exact Nat.mod_eq_of_lt (by omega)

/-- The result at `(b, i, k)`. -/
theorem result_at (q : S4096x100x64.Idx) (b i k : Nat) (hb : b < 4096) (hi : i < 100) (hk : k < 64)
    (h0 : (q 0).val = b) (h1 : (q 1).val = i) (h2 : (q 2).val = k) (hx : ∀ i, (xs m d i).toNat < 6) :
    V₅ m d main_v15 q = item (names m d) (vals m d) (code (xs m d) (ms m d) b i hb hi) i k hi hk := by
  show after ops₃ (V₄ m d) main_v15 q = _
  rw [ops₃_v15, V₄_v14]
  obtain ⟨j, e | e⟩ : ∃ j, i = 2 * j ∨ i = 2 * j + 1 := ⟨i / 2, by omega⟩
  · subst e
    rw [shapeCast_apply _ _ q ((fun | 0 => ⟨b * 50 + j, by show _ < 204800; omega⟩ | 1 => ⟨k, by show _ < 128; omega⟩) : S204800x128.Idx) (by
      rw [Shape.rowMajor_val_two, Shape.rowMajor_val_three]
      show (b * 50 + j) * 128 + k = ((q 0).val * 100 + (q 1).val) * 64 + (q 2).val
      rw [h0, h1, h2]
      omega)]
    rw [row_at m d _ b j k hb (by omega) (by omega) rfl rfl hx, dif_pos hk]
  · subst e
    rw [shapeCast_apply _ _ q ((fun | 0 => ⟨b * 50 + j, by show _ < 204800; omega⟩ | 1 => ⟨64 + k, by show _ < 128; omega⟩) : S204800x128.Idx) (by
      rw [Shape.rowMajor_val_two, Shape.rowMajor_val_three]
      show (b * 50 + j) * 128 + (64 + k) = ((q 0).val * 100 + (q 1).val) * 64 + (q 2).val
      rw [h0, h1, h2]
      omega)]
    rw [row_at m d _ b j (64 + k) hb (by omega) (by omega) rfl rfl hx, dif_neg (by omega)]
    simp only [Nat.add_sub_cancel_left]

end Cert.Proof.Lookup

end
-- ==== Proof.Reference.lean ====
/-
  The reference read at an entry: under the precondition's bounds no index is wrapped or filled, the scatter writes
  zeros at each row's masked position alone, and the result at `(b, i, k)` is the name at `(i, k)` plus either zero or
  the value at `(x[b, i], k)`.
-/
module

public import proofs.«01_k».proof.Proof.Gen.ReferenceIdeal
public import Idealize.ShloMosaic.Lib.ReduceAll
public import Idealize.ShloMosaic.Lib.Routing.OpsPair
public import Idealize.ShloMosaic.Lib.Routing.OpsSet
public import Idealize.ShloMosaic.Lib.Pipeline.Value

@[expose] public section

noncomputable section

namespace Cert.Proof.Reference

open Cert.ReferenceIdeal Cert.ReferenceIdeal.Gen
open Idealize.ShloMosaic Idealize.ShloMosaic.Routing

variable {F : FTy → Type} [FloatOps F]

/-! ## The reference's terms -/

/-- The entries of `x`, a negative one wrapped; -/
def wrapX (x : IVec S4096x100 32) : IVec S4096x100 32 :=
  select (cmpi .slt x (broadcastInDim S4096x100 ![] bcast_S_S4096x100 (constantI S_ 32 0#32))) (addi x (broadcastInDim S4096x100 ![] bcast_S_S4096x100 (constantI S_ 32 6#32))) x
/-- as the gather takes them. -/
def starts (x : IVec S4096x100 32) : IVec S4096x100x1 32 := broadcastInDim S4096x100x1 ![0, 1] bcast_S4096x100_S4096x100x1_0_1 (wrapX x)
/-- Whether an entry is a row of the values. -/
def inside (x : IVec S4096x100 32) : IVec S4096x100 1 :=
  Host.reduce IntOp.andi (andi (cmpi .sge (starts x) (broadcastInDim S4096x100x1 ![] bcast_S_S4096x100x1 (constantI S_ 32 0#32)))
    (cmpi .sle (starts x) (broadcastInDim S4096x100x1 ![0, 1, 2] bcast_S1x1x1_S4096x100x1_0_1_2 (broadcastInDim S1x1x1 ![2] bcast_S1_S1x1x1_2 (constantI S1 32 5#32)))))
    (constantI S_ 1 1#1) reducesTo_S4096x100x1_S4096x100_d2 h_S_
/-- The values looked up. -/
def looked (x : IVec S4096x100 32) (v : FVec F S6x64 .f32) : FVec F S4096x100x64 .f32 :=
  select (broadcastInDim S4096x100x64 ![0, 1] bcast_S4096x100_S4096x100x64_0_1 (inside x))
    (Host.gather gather_S6x64_S4096x100x1_S4096x100x64_2_0_n_n_0_2_164 v (starts x))
    (broadcastInDim S4096x100x64 ![] bcast_S_S4096x100x64 (constant S_ .f32 0x7FC00000#32))
/-- A line of words, a negative one wrapped by `n`. -/
def wrapY (n : BitVec 32) (y : IVec S4096 32) : IVec S4096 32 :=
  select (cmpi .slt y (broadcastInDim S4096 ![] bcast_S_S4096 (constantI S_ 32 0#32))) (addi y (broadcastInDim S4096 ![] bcast_S_S4096 (constantI S_ 32 n))) y
/-- Where the zeros are written: each batch row at its masked position. -/
def places (y : IVec S4096 32) : IVec S4096x2 32 :=
  concatenate S4096x2 1 [⟨S4096x1, broadcastInDim S4096x1 ![0] bcast_S4096_S4096x1_0 (wrapY 4096#32 (iotaInDim S4096 32 0))⟩,
    ⟨S4096x1, broadcastInDim S4096x1 ![0] bcast_S4096_S4096x1_0 (wrapY 100#32 y)⟩] concatenates_S4096x1_S4096x1_S4096x2_d1
/-- The zeros. -/
def zeros : FVec F S4096x64 .f32 := broadcastInDim S4096x64 ![] bcast_S_S4096x64 (constant S_ .f32 0x00000000#32)
/-- The reference's result. -/
def result (x : IVec S4096x100 32) (y : IVec S4096 32) (n : FVec F S100x64 .f32) (v : FVec F S6x64 .f32) : FVec F S4096x100x64 .f32 :=
  addf (broadcastInDim S4096x100x64 ![0, 1, 2] bcast_S1x100x64_S4096x100x64_0_1_2 (broadcastInDim S1x100x64 ![1, 2] bcast_S100x64_S1x100x64_1_2 n))
    (Host.scatter scatter_S4096x100x64_S4096x2_S4096x64_1_01_01_1 (fun _ b => b) (looked x v) (places y) zeros)

/-! ## Nothing is wrapped or filled -/

theorem wrapX_eq (x : IVec S4096x100 32) (hx : ∀ i, (x i).toNat < 6) : wrapX x = x := by
  funext i
  exact wrap_of_lt (x i) _ (Nat.lt_trans (hx i) (by decide))

theorem wrapY_eq (n : BitVec 32) (y : IVec S4096 32) (hy : ∀ i, (y i).toNat < 4096) : wrapY n y = y := by
  funext i
  exact wrap_of_lt (y i) _ (Nat.lt_trans (hy i) (by decide))

/-- The start index at `(b, i)` is the entry there. -/
theorem starts_at (x : IVec S4096x100 32) (hx : ∀ i, (x i).toNat < 6) (z : S4096x100x1.Idx) (w : S4096x100.Idx)
    (h0 : (w 0).val = (z 0).val) (h1 : (w 1).val = (z 1).val) : starts x z = x w := by
  unfold starts
  rw [wrapX_eq x hx]
  exact broadcastInDim_apply _ _ x z w (by
    intro a
    match a with
    | 0 => exact h0
    | 1 => exact h1)

/-- A word below six lies between zero and five, both read signed. -/
theorem between (w : BitVec 32) (h : w.toNat < 6) : IntOp.andi (IntOp.cmpi .sge w 0#32) (IntOp.cmpi .sle w 5#32) = 1#1 := by
  have e : w.toInt = w.toNat := by rw [BitVec.toInt_eq_toNat_cond]; omega
  have h0 : IntOp.cmpi .sge w 0#32 = 1#1 := IntOp.cmpi_sge.2 (by rw [e]; show (0 : Int) ≤ _; omega)
  have h5 : IntOp.cmpi .sle w 5#32 = 1#1 := IntOp.cmpi_sle.2 (by rw [e]; show _ ≤ (5 : Int); omega)
  rw [h0, h5]
  rfl

theorem inside_eq (x : IVec S4096x100 32) (hx : ∀ i, (x i).toNat < 6) (j : S4096x100.Idx) : inside x j = 1#1 := by
  refine Host.reduce_andi_one _ _ _ _ j rfl fun z => ?_
  show IntOp.andi (IntOp.cmpi .sge (starts x z) 0#32) (IntOp.cmpi .sle (starts x z) 5#32) = 1#1
  rw [starts_at x hx z (fun | 0 => ⟨(z 0).val, (z 0).isLt⟩ | 1 => ⟨(z 1).val, (z 1).isLt⟩) rfl rfl]
  exact between _ (hx _)

/-! ## The gather -/

/-- The gather at `(b, i, k)` is the values' row named by the start index at `(b, i)`, where that is a row. -/
theorem gather_at (v : FVec F S6x64 .f32) (idx : IVec S4096x100x1 32) (q : S4096x100x64.Idx) (e : Nat) (he : e < 6)
    (h : (idx (fun | 0 => ⟨(q 0).val, (q 0).isLt⟩ | 1 => ⟨(q 1).val, (q 1).isLt⟩ | 2 => ⟨0, Nat.one_pos⟩)).toNat = e) :
    Host.gather gather_S6x64_S4096x100x1_S4096x100x64_2_0_n_n_0_2_164 v idx q = v (fun | 0 => ⟨e, he⟩ | 1 => ⟨(q 2).val, (q 2).isLt⟩) := by
  unfold Host.gather
  congr 1
  funext a
  apply Fin.ext
  show GatherDims.start _ q idx a + GatherDims.batchCoord _ q a + GatherDims.offCoord _ q a = _
  match a with
  | 0 =>
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ (gather_S6x64_S4096x100x1_S4096x100x64_2_0_n_n_0_2_164).startIndexMap from List.mem_singleton.mpr rfl)]
    have hsi : GatherDims.siIdx gather_S6x64_S4096x100x1_S4096x100x64_2_0_n_n_0_2_164 q ⟨List.idxOf (0 : Fin 2) (gather_S6x64_S4096x100x1_S4096x100x64_2_0_n_n_0_2_164).startIndexMap,
        List.idxOf_lt_length_iff.2 (List.mem_singleton.mpr rfl)⟩
          = (fun | 0 => ⟨(q 0).val, (q 0).isLt⟩ | 1 => ⟨(q 1).val, (q 1).isLt⟩ | 2 => ⟨0, Nat.one_pos⟩) := by
      funext b
      apply Fin.ext
      match b with
      | 0 => rfl
      | 1 => rfl
      | 2 => rfl
    rw [hsi]
    show min (idx _).toInt.toNat 5 + 0 + 0 = e
    rw [BitVec.toInt_eq_toNat_cond, h]
    omega
  | 1 =>
    rw [GatherDims.batchCoord_eq_zero _ _ _ List.not_mem_nil]
    unfold GatherDims.start
    rw [dif_neg (show ¬ (1 : Fin 2) ∈ (gather_S6x64_S4096x100x1_S4096x100x64_2_0_n_n_0_2_164).startIndexMap from by
      show ¬ (1 : Fin 2) ∈ [(0 : Fin 2)]; decide)]
    rw [Nat.zero_add]
    rfl

/-- The value looked up at `(b, i, k)`. -/
theorem looked_at (x : IVec S4096x100 32) (v : FVec F S6x64 .f32) (hx : ∀ i, (x i).toNat < 6) (q : S4096x100x64.Idx) (w : S4096x100.Idx)
    (h0 : (w 0).val = (q 0).val) (h1 : (w 1).val = (q 1).val) :
    looked x v q = v (fun | 0 => ⟨(x w).toNat, hx w⟩ | 1 => ⟨(q 2).val, (q 2).isLt⟩) := by
  unfold looked
  show Scalar.select (broadcastInDim S4096x100x64 ![0, 1] bcast_S4096x100_S4096x100x64_0_1 (inside x) q) _ _ = _
  rw [broadcastInDim_apply _ _ _ q w (by
    intro a
    match a with
    | 0 => exact h0
    | 1 => exact h1), inside_eq x hx, WordCmp.select_of_eq_one rfl]
  exact gather_at v (starts x) q _ _ (by rw [starts_at x hx _ w h0 h1])

/-! ## The scatter -/

/-- The two words of batch row `b`: its number, -/
theorem places_row (y : IVec S4096 32) (hy : ∀ i, (y i).toNat < 100) (b : Nat) (hb : b < 4096) :
    places y (fun | 0 => ⟨b, hb⟩ | 1 => ⟨0, by decide⟩) = BitVec.ofNat 32 b := by
  unfold places
  rw [wrapY_eq _ (iotaInDim S4096 32 0) (fun i => by
    have h : (i 0).val < 4096 := (i 0).isLt
    show (BitVec.ofNat 32 (i 0).val).toNat < 4096
    rw [BitVec.toNat_ofNat]; omega)]
  refine (concatenate_pair_apply_left (t := S4096x2) (s₁ := S4096x1) (s₂ := S4096x1) 1 _ _ _ _ rfl (fun | 0 => ⟨b, hb⟩ | 1 => ⟨0, by decide⟩) (by
    intro a
    match a with
    | 0 => rfl
    | 1 => rfl)).trans ?_
  exact (broadcastInDim_apply _ _ _ _ ((fun | 0 => ⟨b, hb⟩) : S4096.Idx) (by
    intro a
    match a with
    | 0 => rfl)).trans rfl

/-- and its masked position. -/
theorem places_col (y : IVec S4096 32) (hy : ∀ i, (y i).toNat < 100) (b : Nat) (hb : b < 4096) :
    places y (fun | 0 => ⟨b, hb⟩ | 1 => ⟨1, by decide⟩) = y (fun | 0 => ⟨b, hb⟩) := by
  unfold places
  rw [wrapY_eq _ y (fun i => Nat.lt_trans (hy i) (by decide))]
  refine (concatenate_pair_apply_right (t := S4096x2) (s₁ := S4096x1) (s₂ := S4096x1) 1 _ _ _ _ rfl rfl (fun | 0 => ⟨b, hb⟩ | 1 => ⟨0, by decide⟩) (by
    intro a ha
    match a with
    | 0 => rfl
    | 1 => exact absurd rfl ha) rfl).trans ?_
  exact broadcastInDim_apply _ _ _ _ _ (by
    intro a
    match a with
    | 0 => rfl)

/-- Update `(b', k')` lands at `(b, i, k)` exactly when its words are `b` and `i` and `k'` is `k`. -/
theorem lands (idx : IVec S4096x2 32) (u : S4096x64.Idx) (q : S4096x100x64.Idx) :
    (scatter_S4096x100x64_S4096x2_S4096x64_1_01_01_1).resultIdx? u idx = some q
      ↔ (idx (fun | 0 => ⟨(u 0).val, (u 0).isLt⟩ | 1 => ⟨0, by decide⟩)).toInt = ((q 0).val : Int)
        ∧ (idx (fun | 0 => ⟨(u 0).val, (u 0).isLt⟩ | 1 => ⟨1, by decide⟩)).toInt = ((q 1).val : Int) ∧ (u 1).val = (q 2).val := by
  have w0 : (scatter_S4096x100x64_S4096x2_S4096x64_1_01_01_1).window u 0 = 0 := by
    unfold ScatterDims.window
    exact dif_neg (show ¬ (0 : Fin 3) ∈ S4096x100x64.kept [0, 1] by decide)
  have w1 : (scatter_S4096x100x64_S4096x2_S4096x64_1_01_01_1).window u 1 = 0 := by
    unfold ScatterDims.window
    exact dif_neg (show ¬ (1 : Fin 3) ∈ S4096x100x64.kept [0, 1] by decide)
  have w2 : (scatter_S4096x100x64_S4096x2_S4096x64_1_01_01_1).window u 2 = (u 1).val := by
    unfold ScatterDims.window
    exact dif_pos (show (2 : Fin 3) ∈ S4096x100x64.kept [0, 1] by decide)
  have s0 : (scatter_S4096x100x64_S4096x2_S4096x64_1_01_01_1).start u idx 0
      = (idx (fun | 0 => ⟨(u 0).val, (u 0).isLt⟩ | 1 => ⟨0, by decide⟩)).toInt := by
    unfold ScatterDims.start
    refine (dif_pos (show (0 : Fin 3) ∈ [(0 : Fin 3), 1] by decide)).trans (congrArg (fun z => (idx z).toInt) ?_)
    funext a
    apply Fin.ext
    match a with
    | 0 => rfl
    | 1 => rfl
  have s1 : (scatter_S4096x100x64_S4096x2_S4096x64_1_01_01_1).start u idx 1
      = (idx (fun | 0 => ⟨(u 0).val, (u 0).isLt⟩ | 1 => ⟨1, by decide⟩)).toInt := by
    unfold ScatterDims.start
    refine (dif_pos (show (1 : Fin 3) ∈ [(0 : Fin 3), 1] by decide)).trans (congrArg (fun z => (idx z).toInt) ?_)
    funext a
    apply Fin.ext
    match a with
    | 0 => rfl
    | 1 => rfl
  have s2 : (scatter_S4096x100x64_S4096x2_S4096x64_1_01_01_1).start u idx 2 = 0 := by
    unfold ScatterDims.start
    exact dif_neg (show ¬ (2 : Fin 3) ∈ [(0 : Fin 3), 1] by decide)
  rw [resultIdx?_eq_some]
  constructor
  · intro h
    have h0 := h 0
    have h1 := h 1
    have h2 := h 2
    rw [s0, w0] at h0
    rw [s1, w1] at h1
    rw [s2, w2] at h2
    exact ⟨by omega, by omega, by omega⟩
  · rintro ⟨h0, h1, h2⟩ a
    match a with
    | 0 => rw [s0, w0]; omega
    | 1 => rw [s1, w1]; omega
    | 2 => rw [s2, w2]; omega

/-- The scatter of zeros at `(b, i, k)`: zero at the masked position, else the operand's element. -/
theorem scatter_at (y : IVec S4096 32) (hy : ∀ i, (y i).toNat < 100) (t : FVec F S4096x100x64 .f32) (q : S4096x100x64.Idx) (w : S4096.Idx)
    (hw : (w 0).val = (q 0).val) :
    Host.scatter scatter_S4096x100x64_S4096x2_S4096x64_1_01_01_1 (fun _ b => b) t (places y) zeros q
      = if (q 1).val = (y w).toNat then (constant S_ .f32 0x00000000#32 : FVec F S_ .f32) (fun a => a.elim0) else t q := by
  have hl : ∀ u : S4096x64.Idx, (scatter_S4096x100x64_S4096x2_S4096x64_1_01_01_1).resultIdx? u (places y) = some q
      ↔ (u 0).val = (q 0).val ∧ (y (fun | 0 => ⟨(u 0).val, (u 0).isLt⟩)).toNat = (q 1).val ∧ (u 1).val = (q 2).val := by
    intro u
    have hu : (u 0).val < 4096 := (u 0).isLt
    have hyu := hy (fun | 0 => ⟨(u 0).val, (u 0).isLt⟩)
    rw [lands, places_row y hy _ hu, places_col y hy _ hu, BitVec.toInt_eq_toNat_cond, BitVec.toInt_eq_toNat_cond, BitVec.toNat_ofNat]
    constructor
    · rintro ⟨h0, h1, h2⟩
      exact ⟨by omega, by omega, h2⟩
    · rintro ⟨h0, h1, h2⟩
      exact ⟨by omega, by omega, h2⟩
  have hq : ∀ u : S4096x64.Idx, (u 0).val = (q 0).val → (fun | 0 => ⟨(u 0).val, (u 0).isLt⟩ : S4096.Idx) = w := by
    intro u hu
    funext a
    apply Fin.ext
    match a with
    | 0 => exact hu.trans hw.symm
  split
  · rename_i h
    refine scatter_set_hit _ t (places y) zeros q _ (fun u _ => rfl) (fun | 0 => ⟨(q 0).val, (q 0).isLt⟩ | 1 => ⟨(q 2).val, (q 2).isLt⟩) ((hl _).2 ⟨rfl, ?_, rfl⟩)
    exact (congrArg (fun z => (y z).toNat) (hq (fun | 0 => ⟨(q 0).val, (q 0).isLt⟩ | 1 => ⟨(q 2).val, (q 2).isLt⟩) rfl)).trans h.symm
  · rename_i h
    refine scatter_set_miss _ t (places y) zeros q fun u hu => h ?_
    obtain ⟨h0, h1, _⟩ := (hl u).1 hu
    rw [hq u h0] at h1
    exact h1.symm

/-! ## The result -/

/-- The reference's result at `(b, i, k)`. -/
theorem result_at (x : IVec S4096x100 32) (y : IVec S4096 32) (n : FVec F S100x64 .f32) (v : FVec F S6x64 .f32)
    (hx : ∀ i, (x i).toNat < 6) (hy : ∀ i, (y i).toNat < 100) (q : S4096x100x64.Idx) (w : S4096.Idx) (z : S4096x100.Idx)
    (hw : (w 0).val = (q 0).val) (h0 : (z 0).val = (q 0).val) (h1 : (z 1).val = (q 1).val) :
    result x y n v q = FloatOps.addf (n (fun | 0 => ⟨(q 1).val, (q 1).isLt⟩ | 1 => ⟨(q 2).val, (q 2).isLt⟩))
      (if (q 1).val = (y w).toNat then (constant S_ .f32 0x00000000#32 : FVec F S_ .f32) (fun a => a.elim0)
        else v (fun | 0 => ⟨(x z).toNat, hx z⟩ | 1 => ⟨(q 2).val, (q 2).isLt⟩)) := by
  unfold result
  show FloatOps.addf (broadcastInDim S4096x100x64 ![0, 1, 2] bcast_S1x100x64_S4096x100x64_0_1_2
    (broadcastInDim S1x100x64 ![1, 2] bcast_S100x64_S1x100x64_1_2 n) q) _ = _
  rw [scatter_at y hy _ q w hw, looked_at x v hx q z h0 h1]
  congr 1
  rw [broadcastInDim_apply _ _ _ q ((fun | 0 => ⟨0, by decide⟩ | 1 => ⟨(q 1).val, (q 1).isLt⟩ | 2 => ⟨(q 2).val, (q 2).isLt⟩) : S1x100x64.Idx) (by
    intro a
    match a with
    | 0 => rfl
    | 1 => rfl
    | 2 => rfl)]
  exact broadcastInDim_apply _ _ n _ _ (by
    intro a
    match a with
    | 0 => rfl
    | 1 => rfl)

end Cert.Proof.Reference

end
-- ==== Proof.Algebraic.lean ====
/-
  The kernel agrees with the reference over the reals: entry by entry both results are the name at the position plus
  the value the row's entry names, a masked position adding nothing on one side and zero on the other.
-/
module

public import proofs.«01_k».proof.Proof.Frames
public import proofs.«01_k».proof.Proof.Result
public import proofs.«01_k».proof.Proof.Reference
public import proofs.«01_k».proof.Proof.Gen.ReferenceIdeal.Run

@[expose] public section

noncomputable section

namespace Cert.Proof

open Idealize.ShloMosaic Idealize.ShloMosaic.TcCoe

/-- A sum whose second term is chosen, the choice made one way -/
theorem add_first {p : Prop} [Decidable p] (a b c : Ideal FTy.f32) (h : p) :
    FloatOps.addf (F := Ideal) (φ := .f32) a (if p then b else c) = FloatOps.addf (F := Ideal) (φ := .f32) a b := by
  rw [if_pos h]

/-- and the other. -/
theorem add_second {p : Prop} [Decidable p] (a b c : Ideal FTy.f32) (h : ¬ p) :
    FloatOps.addf (F := Ideal) (φ := .f32) a (if p then b else c) = FloatOps.addf (F := Ideal) (φ := .f32) a c := by
  rw [if_neg h]

/-- What the kernel leaves is the reference's result on the same arrays. -/
theorem agree (m : (ℓ : Loc Cert.KernelIdeal.nD Cert.KernelIdeal.τ Cert.KernelIdeal.sig) → Buf (Elt Ideal) ℓ) (d : Dev Cert.KernelIdeal.nD)
    (hx : ∀ i, (Lookup.xs m d i).toNat < 6) (hy : ∀ i, (Lookup.ms m d i).toNat < 100) :
    Lookup.V₅ m d Cert.KernelIdeal.main_v15
      = Reference.result (F := Ideal) (Lookup.xs m d) (Lookup.ms m d) (Lookup.names m d) (Lookup.vals m d) := by
  funext q
  have h0 : (q 0).val < 4096 := (q 0).isLt
  have h1 : (q 1).val < 100 := (q 1).isLt
  have h2 : (q 2).val < 64 := (q 2).isLt
  refine (Lookup.result_at m d q _ _ _ h0 h1 h2 rfl rfl rfl hx).trans
    (Eq.trans ?_ (Reference.result_at (F := Ideal) (Lookup.xs m d) (Lookup.ms m d) (Lookup.names m d) (Lookup.vals m d) hx hy q (fun | 0 => ⟨(q 0).val, h0⟩) (fun | 0 => ⟨(q 0).val, h0⟩ | 1 => ⟨(q 1).val, h1⟩) rfl rfl rfl).symm)
  by_cases hm : (q 1).val = (Lookup.ms m d (fun | 0 => ⟨(q 0).val, h0⟩)).toNat
  · have hc : Lookup.code (Lookup.xs m d) (Lookup.ms m d) (q 0).val (q 1).val h0 h1 = 6 := if_pos hm
    rw [hc]
    refine (Lookup.item_ge _ _ _ _ _ _ _ (by decide)).trans (Eq.trans ?_ (add_first _ _ _ hm).symm)
    show _ = _ + (Ideal.ofBits .f32 0x00000000#32 : EReal)
    rw [Ideal.ofBits_zero_f32, add_zero]
    rfl
  · have hc : Lookup.code (Lookup.xs m d) (Lookup.ms m d) (q 0).val (q 1).val h0 h1
        = (Lookup.xs m d (fun | 0 => ⟨(q 0).val, h0⟩ | 1 => ⟨(q 1).val, h1⟩)).toNat := if_neg hm
    rw [hc]
    exact (Lookup.item_lt _ _ _ _ _ _ _ (hx _)).trans (add_second _ _ _ hm).symm

/-- The reference's result on equal arrays. -/
theorem same_result (x x' : IVec Cert.ReferenceIdeal.S4096x100 32) (y y' : IVec Cert.ReferenceIdeal.S4096 32)
    (n n' : FVec Ideal Cert.ReferenceIdeal.S100x64 .f32) (v v' : FVec Ideal Cert.ReferenceIdeal.S6x64 .f32)
    (hx : x = x') (hy : y = y') (hn : n = n') (hv : v = v') :
    Reference.result x y n v = Reference.result x' y' n' v' := by
  rw [hx, hy, hn, hv]

/-- The kernel and the reference, run from the same arrays, end with the same result and leave the arrays be. -/
theorem algebraic : Cert.algebraic_KernelIdeal_ReferenceIdeal := by
  intro m g m' g' hpre hagree
  refine ⟨fun c => Lookup.V₅ m c Cert.KernelIdeal.main_v15,
    (θ_run Cert.KernelIdeal.defs _ _).mono (fun _ h c => h.1 c)
      (Lookup.run_values (F := Ideal) m g fun d => (Range.bounds _ _ _ _ (hpre d)).1),
    (θ_run Cert.ReferenceIdeal.defs _ _).mono (fun _ h c => ⟨(h c).1.trans ?_, (h c).2⟩)
      (Cert.ReferenceIdeal.Value.run (F := Ideal) m' g')⟩
  obtain ⟨e0, e1, e2, e3⟩ := hagree c
  have hb := Range.bounds _ _ _ _ (hpre c)
  refine Eq.trans ?_ (agree m c hb.1 hb.2).symm
  exact same_result _ _ _ _ _ _ _ _ e0 e1 e2 e3

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_in_range
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_in_range.Gen.facts,
  frame_kernel, frame_ideal, frame_reference, trivial, algebraic⟩

end Cert.Proof

end
